-- ==== Defs.lean ====
def Pre_Kernel [hPre_shift_by_0_Kernel : Cert.Pre_shift_by_0_Kernel.Facts] (m : (ℓ : Loc Cert.Kernel.nD Cert.Kernel.τ Cert.Kernel.sig) → Buf (Elt Bits) ℓ) : Prop :=
  ∀ c : Dev Cert.Kernel.nD,
    (Cert.Pre_shift_by_0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_shift_by_1_Kernel [hPre_shift_by_1_Kernel : Cert.Pre_shift_by_1_Kernel.Facts] (m : (ℓ : Loc Cert.Kernel.nD Cert.Kernel.τ Cert.Kernel.sig) → Buf (Elt Bits) ℓ) : Prop :=
  ∀ c : Dev Cert.Kernel.nD,
    (Cert.Pre_shift_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_shift_by_2_Kernel [hPre_shift_by_2_Kernel : Cert.Pre_shift_by_2_Kernel.Facts] (m : (ℓ : Loc Cert.Kernel.nD Cert.Kernel.τ Cert.Kernel.sig) → Buf (Elt Bits) ℓ) : Prop :=
  ∀ c : Dev Cert.Kernel.nD,
    (Cert.Pre_shift_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_shift_by_3_Kernel [hPre_shift_by_3_Kernel : Cert.Pre_shift_by_3_Kernel.Facts] (m : (ℓ : Loc Cert.Kernel.nD Cert.Kernel.τ Cert.Kernel.sig) → Buf (Elt Bits) ℓ) : Prop :=
  ∀ c : Dev Cert.Kernel.nD,
    (Cert.Pre_shift_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_swap_0_2_Kernel [hPre_swap_0_2_Kernel : Cert.Pre_swap_0_2_Kernel.Facts] (m : (ℓ : Loc Cert.Kernel.nD Cert.Kernel.τ Cert.Kernel.sig) → Buf (Elt Bits) ℓ) : Prop :=
  ∀ c : Dev Cert.Kernel.nD,
    (Cert.Pre_swap_0_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_swap_1_3_Kernel [hPre_swap_1_3_Kernel : Cert.Pre_swap_1_3_Kernel.Facts] (m : (ℓ : Loc Cert.Kernel.nD Cert.Kernel.τ Cert.Kernel.sig) → Buf (Elt Bits) ℓ) : Prop :=
  ∀ c : Dev Cert.Kernel.nD,
    (Cert.Pre_swap_1_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_shift_by_0_Kernel : Cert.Pre_shift_by_0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_shift_by_0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_shift_by_1_Kernel [hPre_shift_by_1_Kernel : Cert.Pre_shift_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_shift_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_shift_by_2_Kernel [hPre_shift_by_2_Kernel : Cert.Pre_shift_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_shift_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_shift_by_3_Kernel [hPre_shift_by_3_Kernel : Cert.Pre_shift_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_shift_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_swap_0_2_Kernel [hPre_swap_0_2_Kernel : Cert.Pre_swap_0_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_0_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_swap_1_3_Kernel [hPre_swap_1_3_Kernel : Cert.Pre_swap_1_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_1_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shift_by_0_ReferenceIdeal [hPre_shift_by_0_ReferenceIdeal : Cert.Pre_shift_by_0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_by_0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_shift_by_1_ReferenceIdeal [hPre_shift_by_1_ReferenceIdeal : Cert.Pre_shift_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_shift_by_2_ReferenceIdeal [hPre_shift_by_2_ReferenceIdeal : Cert.Pre_shift_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_shift_by_3_ReferenceIdeal [hPre_shift_by_3_ReferenceIdeal : Cert.Pre_shift_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_swap_0_2_ReferenceIdeal [hPre_swap_0_2_ReferenceIdeal : Cert.Pre_swap_0_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_0_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_swap_1_3_ReferenceIdeal [hPre_swap_1_3_ReferenceIdeal : Cert.Pre_swap_1_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_1_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_shift_by_0_Kernel : Cert.Pre_shift_by_0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_shift_by_1_Kernel [hKernel : Cert.Kernel.Facts] [hPre_shift_by_1_Kernel : Cert.Pre_shift_by_1_Kernel.Facts] : Prop :=
  ∀ (m : (ℓ : Loc Cert.Kernel.nD Cert.Kernel.τ Cert.Kernel.sig) → Buf (Elt Bits) ℓ) (g : Dev Cert.Kernel.nD → PrngReg), Pre_Kernel_shift_by_1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_shift_by_2_Kernel [hKernel : Cert.Kernel.Facts] [hPre_shift_by_2_Kernel : Cert.Pre_shift_by_2_Kernel.Facts] : Prop :=
  ∀ (m : (ℓ : Loc Cert.Kernel.nD Cert.Kernel.τ Cert.Kernel.sig) → Buf (Elt Bits) ℓ) (g : Dev Cert.Kernel.nD → PrngReg), Pre_Kernel_shift_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_shift_by_3_Kernel [hKernel : Cert.Kernel.Facts] [hPre_shift_by_3_Kernel : Cert.Pre_shift_by_3_Kernel.Facts] : Prop :=
  ∀ (m : (ℓ : Loc Cert.Kernel.nD Cert.Kernel.τ Cert.Kernel.sig) → Buf (Elt Bits) ℓ) (g : Dev Cert.Kernel.nD → PrngReg), Pre_Kernel_shift_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_swap_0_2_Kernel [hKernel : Cert.Kernel.Facts] [hPre_swap_0_2_Kernel : Cert.Pre_swap_0_2_Kernel.Facts] : Prop :=
  ∀ (m : (ℓ : Loc Cert.Kernel.nD Cert.Kernel.τ Cert.Kernel.sig) → Buf (Elt Bits) ℓ) (g : Dev Cert.Kernel.nD → PrngReg), Pre_Kernel_swap_0_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_swap_1_3_Kernel [hKernel : Cert.Kernel.Facts] [hPre_swap_1_3_Kernel : Cert.Pre_swap_1_3_Kernel.Facts] : Prop :=
  ∀ (m : (ℓ : Loc Cert.Kernel.nD Cert.Kernel.τ Cert.Kernel.sig) → Buf (Elt Bits) ℓ) (g : Dev Cert.Kernel.nD → PrngReg), Pre_Kernel_swap_1_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_shift_by_0_Kernel : Cert.Pre_shift_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_shift_by_1_Kernel [hKernelIdeal : Cert.KernelIdeal.Facts] [hPre_shift_by_1_Kernel : Cert.Pre_shift_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shift_by_1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_shift_by_2_Kernel [hKernelIdeal : Cert.KernelIdeal.Facts] [hPre_shift_by_2_Kernel : Cert.Pre_shift_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shift_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_shift_by_3_Kernel [hKernelIdeal : Cert.KernelIdeal.Facts] [hPre_shift_by_3_Kernel : Cert.Pre_shift_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shift_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_swap_0_2_Kernel [hKernelIdeal : Cert.KernelIdeal.Facts] [hPre_swap_0_2_Kernel : Cert.Pre_swap_0_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swap_0_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_swap_1_3_Kernel [hKernelIdeal : Cert.KernelIdeal.Facts] [hPre_swap_1_3_Kernel : Cert.Pre_swap_1_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swap_1_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_shift_by_0_ReferenceIdeal [hReferenceIdeal : Cert.ReferenceIdeal.Facts] [hPre_shift_by_0_ReferenceIdeal : Cert.Pre_shift_by_0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_by_0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_shift_by_1_ReferenceIdeal [hReferenceIdeal : Cert.ReferenceIdeal.Facts] [hPre_shift_by_1_ReferenceIdeal : Cert.Pre_shift_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_shift_by_2_ReferenceIdeal [hReferenceIdeal : Cert.ReferenceIdeal.Facts] [hPre_shift_by_2_ReferenceIdeal : Cert.Pre_shift_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_shift_by_3_ReferenceIdeal [hReferenceIdeal : Cert.ReferenceIdeal.Facts] [hPre_shift_by_3_ReferenceIdeal : Cert.Pre_shift_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_0_2_ReferenceIdeal [hReferenceIdeal : Cert.ReferenceIdeal.Facts] [hPre_swap_0_2_ReferenceIdeal : Cert.Pre_swap_0_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_0_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_1_3_ReferenceIdeal [hReferenceIdeal : Cert.ReferenceIdeal.Facts] [hPre_swap_1_3_ReferenceIdeal : Cert.Pre_swap_1_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_1_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_shift_by_0_Kernel : Cert.Pre_shift_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_shift_by_1_Kernel [hKernelIdeal : Cert.KernelIdeal.Facts] [hReferenceIdeal : Cert.ReferenceIdeal.Facts] [hPre_shift_by_1_Kernel : Cert.Pre_shift_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shift_by_1_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_shift_by_2_Kernel [hKernelIdeal : Cert.KernelIdeal.Facts] [hReferenceIdeal : Cert.ReferenceIdeal.Facts] [hPre_shift_by_2_Kernel : Cert.Pre_shift_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shift_by_2_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_shift_by_3_Kernel [hKernelIdeal : Cert.KernelIdeal.Facts] [hReferenceIdeal : Cert.ReferenceIdeal.Facts] [hPre_shift_by_3_Kernel : Cert.Pre_shift_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shift_by_3_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_swap_0_2_Kernel [hKernelIdeal : Cert.KernelIdeal.Facts] [hReferenceIdeal : Cert.ReferenceIdeal.Facts] [hPre_swap_0_2_Kernel : Cert.Pre_swap_0_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swap_0_2_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_swap_1_3_Kernel [hKernelIdeal : Cert.KernelIdeal.Facts] [hReferenceIdeal : Cert.ReferenceIdeal.Facts] [hPre_swap_1_3_Kernel : Cert.Pre_swap_1_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swap_1_3_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_shift_by_0_Kernel : Cert.Pre_shift_by_0_Kernel.Facts) (hPre_shift_by_1_Kernel : Cert.Pre_shift_by_1_Kernel.Facts) (hPre_shift_by_2_Kernel : Cert.Pre_shift_by_2_Kernel.Facts) (hPre_shift_by_3_Kernel : Cert.Pre_shift_by_3_Kernel.Facts) (hPre_swap_0_2_Kernel : Cert.Pre_swap_0_2_Kernel.Facts) (hPre_swap_1_3_Kernel : Cert.Pre_swap_1_3_Kernel.Facts) (hPre_shift_by_0_ReferenceIdeal : Cert.Pre_shift_by_0_ReferenceIdeal.Facts) (hPre_shift_by_1_ReferenceIdeal : Cert.Pre_shift_by_1_ReferenceIdeal.Facts) (hPre_shift_by_2_ReferenceIdeal : Cert.Pre_shift_by_2_ReferenceIdeal.Facts) (hPre_shift_by_3_ReferenceIdeal : Cert.Pre_shift_by_3_ReferenceIdeal.Facts) (hPre_swap_0_2_ReferenceIdeal : Cert.Pre_swap_0_2_ReferenceIdeal.Facts) (hPre_swap_1_3_ReferenceIdeal : Cert.Pre_swap_1_3_ReferenceIdeal.Facts),
    quiescent_Kernel (hKernel := hKernel) (hPre_shift_by_0_Kernel := hPre_shift_by_0_Kernel)
    ∧ quiescent_Kernel_pre_shift_by_1_Kernel (hKernel := hKernel) (hPre_shift_by_1_Kernel := hPre_shift_by_1_Kernel)
    ∧ quiescent_Kernel_pre_shift_by_2_Kernel (hKernel := hKernel) (hPre_shift_by_2_Kernel := hPre_shift_by_2_Kernel)
    ∧ quiescent_Kernel_pre_shift_by_3_Kernel (hKernel := hKernel) (hPre_shift_by_3_Kernel := hPre_shift_by_3_Kernel)
    ∧ quiescent_Kernel_pre_swap_0_2_Kernel (hKernel := hKernel) (hPre_swap_0_2_Kernel := hPre_swap_0_2_Kernel)
    ∧ quiescent_Kernel_pre_swap_1_3_Kernel (hKernel := hKernel) (hPre_swap_1_3_Kernel := hPre_swap_1_3_Kernel)
    ∧ quiescent_KernelIdeal (hKernelIdeal := hKernelIdeal) (hPre_shift_by_0_Kernel := hPre_shift_by_0_Kernel)
    ∧ quiescent_KernelIdeal_pre_shift_by_1_Kernel (hKernelIdeal := hKernelIdeal) (hPre_shift_by_1_Kernel := hPre_shift_by_1_Kernel)
    ∧ quiescent_KernelIdeal_pre_shift_by_2_Kernel (hKernelIdeal := hKernelIdeal) (hPre_shift_by_2_Kernel := hPre_shift_by_2_Kernel)
    ∧ quiescent_KernelIdeal_pre_shift_by_3_Kernel (hKernelIdeal := hKernelIdeal) (hPre_shift_by_3_Kernel := hPre_shift_by_3_Kernel)
    ∧ quiescent_KernelIdeal_pre_swap_0_2_Kernel (hKernelIdeal := hKernelIdeal) (hPre_swap_0_2_Kernel := hPre_swap_0_2_Kernel)
    ∧ quiescent_KernelIdeal_pre_swap_1_3_Kernel (hKernelIdeal := hKernelIdeal) (hPre_swap_1_3_Kernel := hPre_swap_1_3_Kernel)
    ∧ quiescent_ReferenceIdeal (hReferenceIdeal := hReferenceIdeal)
    ∧ quiescent_ReferenceIdeal_pre_shift_by_0_ReferenceIdeal (hReferenceIdeal := hReferenceIdeal) (hPre_shift_by_0_ReferenceIdeal := hPre_shift_by_0_ReferenceIdeal)
    ∧ quiescent_ReferenceIdeal_pre_shift_by_1_ReferenceIdeal (hReferenceIdeal := hReferenceIdeal) (hPre_shift_by_1_ReferenceIdeal := hPre_shift_by_1_ReferenceIdeal)
    ∧ quiescent_ReferenceIdeal_pre_shift_by_2_ReferenceIdeal (hReferenceIdeal := hReferenceIdeal) (hPre_shift_by_2_ReferenceIdeal := hPre_shift_by_2_ReferenceIdeal)
    ∧ quiescent_ReferenceIdeal_pre_shift_by_3_ReferenceIdeal (hReferenceIdeal := hReferenceIdeal) (hPre_shift_by_3_ReferenceIdeal := hPre_shift_by_3_ReferenceIdeal)
    ∧ quiescent_ReferenceIdeal_pre_swap_0_2_ReferenceIdeal (hReferenceIdeal := hReferenceIdeal) (hPre_swap_0_2_ReferenceIdeal := hPre_swap_0_2_ReferenceIdeal)
    ∧ quiescent_ReferenceIdeal_pre_swap_1_3_ReferenceIdeal (hReferenceIdeal := hReferenceIdeal) (hPre_swap_1_3_ReferenceIdeal := hPre_swap_1_3_ReferenceIdeal)
    ∧ preserves_Kernel_KernelIdeal
    ∧ algebraic_KernelIdeal_ReferenceIdeal (hKernelIdeal := hKernelIdeal) (hReferenceIdeal := hReferenceIdeal) (hPre_shift_by_0_Kernel := hPre_shift_by_0_Kernel)
    ∧ algebraic_KernelIdeal_ReferenceIdeal_pre_shift_by_1_Kernel (hKernelIdeal := hKernelIdeal) (hReferenceIdeal := hReferenceIdeal) (hPre_shift_by_1_Kernel := hPre_shift_by_1_Kernel)
    ∧ algebraic_KernelIdeal_ReferenceIdeal_pre_shift_by_2_Kernel (hKernelIdeal := hKernelIdeal) (hReferenceIdeal := hReferenceIdeal) (hPre_shift_by_2_Kernel := hPre_shift_by_2_Kernel)
    ∧ algebraic_KernelIdeal_ReferenceIdeal_pre_shift_by_3_Kernel (hKernelIdeal := hKernelIdeal) (hReferenceIdeal := hReferenceIdeal) (hPre_shift_by_3_Kernel := hPre_shift_by_3_Kernel)
    ∧ algebraic_KernelIdeal_ReferenceIdeal_pre_swap_0_2_Kernel (hKernelIdeal := hKernelIdeal) (hReferenceIdeal := hReferenceIdeal) (hPre_swap_0_2_Kernel := hPre_swap_0_2_Kernel)
    ∧ algebraic_KernelIdeal_ReferenceIdeal_pre_swap_1_3_Kernel (hKernelIdeal := hKernelIdeal) (hReferenceIdeal := hReferenceIdeal) (hPre_swap_1_3_Kernel := hPre_swap_1_3_Kernel)
-- ==== Pre_shift_by_0_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_0_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_1_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_1_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_2_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_2_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_3_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_shift_by_3_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_swap_0_2_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_swap_0_2_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_swap_1_3_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_swap_1_3_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x4096x2048 : Shape := ⟨3, ![1, 4096, 2048]⟩
abbrev S4 : Shape := ⟨1, ![4]⟩
abbrev S1x1024x2048 : Shape := ⟨3, ![1, 1024, 2048]⟩
abbrev S_ : Shape := ⟨0, ![]⟩
abbrev S3x2 : Shape := ⟨2, ![3, 2]⟩
abbrev S1 : Shape := ⟨1, ![1]⟩
abbrev S1x3072x2048 : Shape := ⟨3, ![1, 3072, 2048]⟩
abbrev S1x1 : Shape := ⟨2, ![1, 1]⟩
abbrev S1x512x2048 : Shape := ⟨3, ![1, 512, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .f32⟩
  | .hbm, ⟨1, _⟩ => ⟨S4, .i32⟩
  | .hbm, ⟨2, _⟩ => ⟨S1x4096x2048, .f32⟩
  | .local _ .vmem, ⟨0, _⟩ => ⟨S1x1024x2048, .f32⟩
  | .local _ .vmem, ⟨1, _⟩ => ⟨S1x1024x2048, .f32⟩
  | .local _ .smem, ⟨0, _⟩ => ⟨S4, .i32⟩
  | _, _ => ⟨S1x4096x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (v4 : BitVec 32) : Nat :=
  v4.toNat
def k0_cond1 (d0 : Dev nD) (v4 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let c2_i32 : BitVec 32 := 2#32
  let v9 : BitVec 1 := Scalar.cmpi .eq v7 c2_i32
  let v10 : BitVec 32 := Scalar.extui v9
  let c0_i32 : BitVec 32 := 0#32
  let v11 : BitVec 1 := Scalar.cmpi .ne v10 c0_i32
  v11

def k0_dev2 (v4 : BitVec 32) : Nat :=
  v4.toNat
def k0_dev3 (v4 : BitVec 32) : Nat :=
  v4.toNat
def k0_cond2 (d0 : Dev nD) (v4 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let c2_i32_2 : BitVec 32 := 2#32
  let v12 : BitVec 1 := Scalar.cmpi .ne v7 c2_i32_2
  let v13 : BitVec 32 := Scalar.extui v12
  let c0_i32_3 : BitVec 32 := 0#32
  let v14 : BitVec 1 := Scalar.cmpi .ne v13 c0_i32_3
  v14

def k0_dev4 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev5 (v4 : BitVec 32) : Nat :=
  v4.toNat
def k0_dev6 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev7 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev8 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev9 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev10 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat
def k0_dev11 (d0 : Dev nD) (v4 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_4 : BitVec 32 := 4#32
  let v15 : BitVec 32 := Scalar.addi v2 c4_i32_4
  let v5 : BitVec 32 := Scalar.subi v4 v2
  let c4_i32_0 : BitVec 32 := 4#32
  let v6 : BitVec 32 := Scalar.addi v5 c4_i32_0
  let c4_i32_1 : BitVec 32 := 4#32
  let v7 : BitVec 32 := Scalar.remsi v6 c4_i32_1
  let v16 : BitVec 32 := Scalar.subi v15 v7
  let c4_i32_5 : BitVec 32 := 4#32
  let v17 : BitVec 32 := Scalar.remsi v16 c4_i32_5
  v17.toNat

def k0_chk1 (d0 : Dev nD) (v4 : BitVec 32) : Prop :=
  (∀ (k0_h1 : k0_cond1 d0 v4 = 1#1), (k0_dev1 v4) < nD) ∧
  (∀ (k0_h1 : k0_cond1 d0 v4 = 1#1), (k0_dev2 v4) < nD) ∧
  (∀ (k0_h2 : k0_cond2 d0 v4 = 1#1), (k0_dev3 v4) < nD) ∧
  (∀ (k0_h2 : k0_cond2 d0 v4 = 1#1), (k0_dev4 d0 v4) < nD) ∧
  (∀ (k0_h2 : k0_cond2 d0 v4 = 1#1), (k0_dev5 v4) < nD) ∧
  (∀ (k0_h2 : k0_cond2 d0 v4 = 1#1), (k0_dev6 d0 v4) < nD) ∧
  (∀ (k0_h2 : k0_cond2 d0 v4 = 1#1), (k0_dev7 d0 v4) < nD) ∧
  (∀ (k0_h2 : k0_cond2 d0 v4 = 1#1), (k0_dev8 d0 v4) < nD) ∧
  (∀ (k0_h2 : k0_cond2 d0 v4 = 1#1), (k0_dev9 d0 v4) < nD) ∧
  (∀ (k0_h2 : k0_cond2 d0 v4 = 1#1), (k0_dev10 d0 v4) < nD) ∧
  (∀ (k0_h2 : k0_cond2 d0 v4 = 1#1), (k0_dev11 d0 v4) < nD)
theorem k0_dev1_lt : ∀ (d0 : Dev nD) (v4 : BitVec 32) (k0_hw1 : k0_chk1 d0 v4), ∀ (k0_h1 : k0_cond1 d0 v4 = 1#1), (k0_dev1 v4) < nD := fun d0 v4 k0_hw1 k0_h1 => k0_hw1.1 k0_h1
theorem k0_dev2_lt : ∀ (d0 : Dev nD) (v4 : BitVec 32) (k0_hw1 : k0_chk1 d0 v4), ∀ (k0_h1 : k0_cond1 d0 v4 = 1#1), (k0_dev2 v4) < nD := fun d0 v4 k0_hw1 k0_h1 => k0_hw1.2.1 k0_h1
theorem k0_dev3_lt : ∀ (d0 : Dev nD) (v4 : BitVec 32) (k0_hw1 : k0_chk1 d0 v4), ∀ (k0_h2 : k0_cond2 d0 v4 = 1#1), (k0_dev3 v4) < nD := fun d0 v4 k0_hw1 k0_h2 => k0_hw1.2.2.1 k0_h2
theorem k0_dev4_lt : ∀ (d0 : Dev nD) (v4 : BitVec 32) (k0_hw1 : k0_chk1 d0 v4), ∀ (k0_h2 : k0_cond2 d0 v4 = 1#1), (k0_dev4 d0 v4) < nD := fun d0 v4 k0_hw1 k0_h2 => k0_hw1.2.2.2.1 k0_h2
theorem k0_dev5_lt : ∀ (d0 : Dev nD) (v4 : BitVec 32) (k0_hw1 : k0_chk1 d0 v4), ∀ (k0_h2 : k0_cond2 d0 v4 = 1#1), (k0_dev5 v4) < nD := fun d0 v4 k0_hw1 k0_h2 => k0_hw1.2.2.2.2.1 k0_h2
theorem k0_dev6_lt : ∀ (d0 : Dev nD) (v4 : BitVec 32) (k0_hw1 : k0_chk1 d0 v4), ∀ (k0_h2 : k0_cond2 d0 v4 = 1#1), (k0_dev6 d0 v4) < nD := fun d0 v4 k0_hw1 k0_h2 => k0_hw1.2.2.2.2.2.1 k0_h2
theorem k0_dev7_lt : ∀ (d0 : Dev nD) (v4 : BitVec 32) (k0_hw1 : k0_chk1 d0 v4), ∀ (k0_h2 : k0_cond2 d0 v4 = 1#1), (k0_dev7 d0 v4) < nD := fun d0 v4 k0_hw1 k0_h2 => k0_hw1.2.2.2.2.2.2.1 k0_h2
theorem k0_dev8_lt : ∀ (d0 : Dev nD) (v4 : BitVec 32) (k0_hw1 : k0_chk1 d0 v4), ∀ (k0_h2 : k0_cond2 d0 v4 = 1#1), (k0_dev8 d0 v4) < nD := fun d0 v4 k0_hw1 k0_h2 => k0_hw1.2.2.2.2.2.2.2.1 k0_h2
theorem k0_dev9_lt : ∀ (d0 : Dev nD) (v4 : BitVec 32) (k0_hw1 : k0_chk1 d0 v4), ∀ (k0_h2 : k0_cond2 d0 v4 = 1#1), (k0_dev9 d0 v4) < nD := fun d0 v4 k0_hw1 k0_h2 => k0_hw1.2.2.2.2.2.2.2.2.1 k0_h2
theorem k0_dev10_lt : ∀ (d0 : Dev nD) (v4 : BitVec 32) (k0_hw1 : k0_chk1 d0 v4), ∀ (k0_h2 : k0_cond2 d0 v4 = 1#1), (k0_dev10 d0 v4) < nD := fun d0 v4 k0_hw1 k0_h2 => k0_hw1.2.2.2.2.2.2.2.2.2.1 k0_h2
theorem k0_dev11_lt : ∀ (d0 : Dev nD) (v4 : BitVec 32) (k0_hw1 : k0_chk1 d0 v4), ∀ (k0_h2 : k0_cond2 d0 v4 = 1#1), (k0_dev11 d0 v4) < nD := fun d0 v4 k0_hw1 k0_h2 => k0_hw1.2.2.2.2.2.2.2.2.2.2 k0_h2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Plan.lean ====
/-
# The permutations the kernel routes along

A `Plan` is a permutation of the four devices — device `c` sends its block to `dst c` and receives the block of
`src c` — together with the facts that make the kernel's two-path routing right for it: the exchange of opposite
devices pairs them up, and every other device is on a cycle of length one or four whose previous device is the one
the kernel computes as `rev`. The six plans below are all the permutations with these facts.
-/
module

public import Idealize.ShloMosaic.Lib.Tactic

@[expose] public section

namespace Cert.Route

open Idealize.ShloMosaic

/-- `a` is the device opposite `c`: two further around the four. -/
abbrev Opp (c a : Dev 4) : Prop := a.val = (c.val + 2) % 4

/-- A permutation of the four devices for which the two-path routing delivers. -/
structure Plan where
  /-- where device `c`'s block goes -/
  dst : Dev 4 → Dev 4
  /-- where device `c`'s result comes from -/
  src : Dev 4 → Dev 4
  src_dst : ∀ c, src (dst c) = c
  dst_src : ∀ c, dst (src c) = c
  opp_dst : ∀ c, Opp (dst c) (dst (dst c)) ↔ Opp c (dst c)
  opp_back : ∀ c, Opp c (dst c) → src c = dst c
  rev_eq : ∀ c, ¬ Opp c (dst c) → (c.val + 4 - ((dst c).val + 4 - c.val) % 4) % 4 = (src c).val
  back3 : ∀ c, ¬ Opp c (dst c) → dst (dst (dst c)) = src c

namespace Plan

variable (p : Plan)

/-- Device `c` exchanges its block with the device opposite it. -/
abbrev half (c : Dev 4) : Prop := Opp c (p.dst c)

theorem half_dst (c : Dev 4) : p.half (p.dst c) ↔ p.half c := p.opp_dst c
theorem half_src (c : Dev 4) : p.half (p.src c) ↔ p.half c := by
  have h := p.half_dst (p.src c); rw [p.dst_src] at h; exact h.symm

/-- The permutation as an equivalence of the devices. -/
def equiv : Dev 4 ≃ Dev 4 := ⟨p.dst, p.src, p.src_dst, p.dst_src⟩

theorem dst_eq_iff {a b : Dev 4} : p.dst a = b ↔ a = p.src b :=
  ⟨fun h => by rw [← h, p.src_dst], fun h => by rw [h, p.dst_src]⟩
theorem src_eq_iff {a b : Dev 4} : p.src a = b ↔ a = p.dst b :=
  ⟨fun h => by rw [← h, p.dst_src], fun h => by rw [h, p.src_dst]⟩

end Plan

/-- Every device keeps its own block. -/
def shift0 : Plan := ⟨![0, 1, 2, 3], ![0, 1, 2, 3], by decide, by decide, by decide, by decide, by decide, by decide⟩
/-- Every device's block goes one further around. -/
def shift1 : Plan := ⟨![1, 2, 3, 0], ![3, 0, 1, 2], by decide, by decide, by decide, by decide, by decide, by decide⟩
/-- Every device exchanges its block with the opposite device. -/
def shift2 : Plan := ⟨![2, 3, 0, 1], ![2, 3, 0, 1], by decide, by decide, by decide, by decide, by decide, by decide⟩
/-- Every device's block goes three further around. -/
def shift3 : Plan := ⟨![3, 0, 1, 2], ![1, 2, 3, 0], by decide, by decide, by decide, by decide, by decide, by decide⟩
/-- Devices 0 and 2 exchange their blocks; devices 1 and 3 keep theirs. -/
def swap02 : Plan := ⟨![2, 1, 0, 3], ![2, 1, 0, 3], by decide, by decide, by decide, by decide, by decide, by decide⟩
/-- Devices 1 and 3 exchange their blocks; devices 0 and 2 keep theirs. -/
def swap13 : Plan := ⟨![0, 3, 2, 1], ![0, 3, 2, 1], by decide, by decide, by decide, by decide, by decide, by decide⟩

end Cert.Route
-- ==== Proof.Tables.lean ====
/-
# The permutations the preconditions name

A precondition compares the array of four words with a literal table and holds where all four agree, so it says that the
array is the table of one of the plans.
-/
module

public import proofs.«01_k».proof.Defs
public import proofs.«01_k».proof.Proof.Gen.Pre_shift_by_0_Kernel
public import proofs.«01_k».proof.Proof.Gen.Pre_shift_by_1_Kernel
public import proofs.«01_k».proof.Proof.Gen.Pre_shift_by_2_Kernel
public import proofs.«01_k».proof.Proof.Gen.Pre_shift_by_3_Kernel
public import proofs.«01_k».proof.Proof.Gen.Pre_swap_0_2_Kernel
public import proofs.«01_k».proof.Proof.Gen.Pre_swap_1_3_Kernel
public import proofs.«01_k».proof.Proof.Plan

@[expose] public section

noncomputable section

namespace Cert.Route

open Idealize.ShloMosaic

/-- The shape of an array of four. -/
abbrev S4 : Shape := ⟨1, ![4]⟩

/-- The permutation as the array the programs are given: entry `c` is the device block `c` goes to. -/
def Plan.table (π : Plan) : IVec S4 32 := fun i => BitVec.ofNat 32 (π.dst (i 0)).val

/-- An array that equals a literal table everywhere is the permutation's table, if the literal table is. -/
theorem table_of_ones (π : Plan) (lit : Fin S4.numel → BitVec 32)
    (hl : ∀ i : S4.Idx, lit (S4.rowMajor i) = BitVec.ofNat 32 (π.dst (i 0)).val) (x : IVec S4 32)
    (h : cmpi .eq x (fun i => lit (S4.rowMajor i)) = fun _ => 1#1) : x = π.table := by
  funext i
  have hi : BitVec.ofBool (x i == lit (S4.rowMajor i)) = 1#1 := congrFun h i
  have he : x i = lit (S4.rowMajor i) := by
    by_contra hne
    rw [show (x i == lit (S4.rowMajor i)) = false from beq_false_of_ne hne] at hi
    exact absurd hi (by decide)
  exact he.trans (hl i)

variable {F : FTy → Type} [FloatOps F] {x : FVec F ⟨3, ![1, 4096, 2048]⟩ .f32} {p : IVec S4 32}

/-- Each precondition names its plan. -/
theorem table_shift0 (h : Cert.Pre_shift_by_0_Kernel.fn x p = fun _ => 1#1) : p = shift0.table := table_of_ones shift0 _ (by decide) p h
theorem table_shift1 (h : Cert.Pre_shift_by_1_Kernel.fn x p = fun _ => 1#1) : p = shift1.table := table_of_ones shift1 _ (by decide) p h
theorem table_shift2 (h : Cert.Pre_shift_by_2_Kernel.fn x p = fun _ => 1#1) : p = shift2.table := table_of_ones shift2 _ (by decide) p h
theorem table_shift3 (h : Cert.Pre_shift_by_3_Kernel.fn x p = fun _ => 1#1) : p = shift3.table := table_of_ones shift3 _ (by decide) p h
theorem table_swap02 (h : Cert.Pre_swap_0_2_Kernel.fn x p = fun _ => 1#1) : p = swap02.table := table_of_ones swap02 _ (by decide) p h
theorem table_swap13 (h : Cert.Pre_swap_1_3_Kernel.fn x p = fun _ => 1#1) : p = swap13.table := table_of_ones swap13 _ (by decide) p h

end Cert.Route

end
-- ==== Proof.KernelIdeal.Pieces.lean ====
/-
# The pieces the kernel moves

A device's block `x` and its result `out` (4096 rows) are cut into the first 3072 rows (piece `D`), the next 512
(piece `A`) and the last 512 (piece `B`); each landing buffer (1024 rows) into its two halves `A` and `B`. Every copy
moves one piece, or the whole block. Here: the pieces, what one holds, and that a buffer is held exactly when its
pieces are.
-/
module

public import proofs.«01_k».proof.Proof.Plan
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hops

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' resource algebra, with duties named by booleans. -/
abbrev UB : Type := URounds (GSem nD τ sig) Bool
/-- The pipeline's resource algebra beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The pieces -/

abbrev xM : Memref sig .tc .hbm S1x4096x2048 .f32 := Memref.whole main_arg0
abbrev oM : Memref sig .tc .hbm S1x4096x2048 .f32 := Memref.whole main_v1
abbrev t1M : Memref sig .tc .vmem S1x1024x2048 .f32 := Memref.whole cc0_scratch0
abbrev t2M : Memref sig .tc .vmem S1x1024x2048 .f32 := Memref.whole cc0_scratch1

/-- Rows 0 to 3071 of a block. -/
abbrev rD : Rect S1x4096x2048 := Rect.unit (s := S1x4096x2048) ![0, 0, 0] S1x3072x2048.size inb_S1x4096x2048_S1x3072x2048_0_0_0
/-- Rows 3072 to 3583 of a block. -/
abbrev rA : Rect S1x4096x2048 := Rect.unit (s := S1x4096x2048) ![0, 3072, 0] S1x512x2048.size inb_S1x4096x2048_S1x512x2048_0_3072_0
/-- Rows 3584 to 4095 of a block. -/
abbrev rB : Rect S1x4096x2048 := Rect.unit (s := S1x4096x2048) ![0, 3584, 0] S1x512x2048.size inb_S1x4096x2048_S1x512x2048_0_3584_0
/-- The first half of a landing buffer. -/
abbrev qA : Rect S1x1024x2048 := Rect.unit (s := S1x1024x2048) ![0, 0, 0] S1x512x2048.size inb_S1x1024x2048_S1x512x2048_0_0_0
/-- The second half of a landing buffer. -/
abbrev qB : Rect S1x1024x2048 := Rect.unit (s := S1x1024x2048) ![0, 512, 0] S1x512x2048.size inb_S1x1024x2048_S1x512x2048_0_512_0

abbrev xD : Memref sig .tc .hbm S1x3072x2048 .f32 := xM.slice rD (fun _ => rfl)
abbrev xA : Memref sig .tc .hbm S1x512x2048 .f32 := xM.slice rA (fun _ => rfl)
abbrev xB : Memref sig .tc .hbm S1x512x2048 .f32 := xM.slice rB (fun _ => rfl)
abbrev oD : Memref sig .tc .hbm S1x3072x2048 .f32 := oM.slice rD (fun _ => rfl)
abbrev oA : Memref sig .tc .hbm S1x512x2048 .f32 := oM.slice rA (fun _ => rfl)
abbrev oB : Memref sig .tc .hbm S1x512x2048 .f32 := oM.slice rB (fun _ => rfl)
abbrev t1A : Memref sig .tc .vmem S1x512x2048 .f32 := t1M.slice qA (fun _ => rfl)
abbrev t1B : Memref sig .tc .vmem S1x512x2048 .f32 := t1M.slice qB (fun _ => rfl)
abbrev t2A : Memref sig .tc .vmem S1x512x2048 .f32 := t2M.slice qA (fun _ => rfl)
abbrev t2B : Memref sig .tc .vmem S1x512x2048 .f32 := t2M.slice qB (fun _ => rfl)

/-- What a copy of the whole block, of piece `D`, of piece `A` or `B` adds to its semaphores. -/
abbrev NW : ℕ := xM.view.dmaCredit
abbrev ND : ℕ := xD.view.dmaCredit
abbrev NS : ℕ := xA.view.dmaCredit
theorem NW_pos : 0 < NW := View.dmaCredit_pos _ (by decide)
theorem ND_pos : 0 < ND := View.dmaCredit_pos _ (by decide)
theorem NS_pos : 0 < NS := View.dmaCredit_pos _ (by decide)

/-! ## Held pieces -/

/-- Device `c` holds the piece `M`, whatever is in it. -/
def anyOf (c : Dev nD) {sp : Space} {s : Shape} {e : EltTy} (M : Memref sig .tc sp s e) : sProp 𝕄 :=
  iprop(∃ X : s.Idx → Elt F e, ownsTc c M fullShare X)

instance anyOf_storable (c : Dev nD) {sp : Space} {s : Shape} {e : EltTy} (M : Memref sig .tc sp s e) :
    BI.Storable (upEmb : UEmb _ 𝕄) (anyOf (F := F) c M) := by unfold anyOf; infer_instance

omit [FloatOps F] in
/-- A piece held at known contents is held. -/
theorem anyOf_intro (c : Dev nD) {sp : Space} {s : Shape} {e : EltTy} (M : Memref sig .tc sp s e) (X : s.Idx → Elt F e) :
    (ownsTc c M fullShare X : sProp 𝕄) ⊢ anyOf c M := by
  unfold anyOf; iintro H; iexists X; iexact H

/-- The three pieces of a block, by number. -/
abbrev big : Fin 3 → Rect S1x4096x2048 := fun | 0 => rD | 1 => rA | 2 => rB
/-- The two halves of a landing buffer, by number. -/
abbrev small : Fin 2 → Rect S1x1024x2048 := fun | 0 => qA | 1 => qB

theorem big_stride (t : Fin 3) : ∀ a, (big t).stride a = 1 := by fin_cases t <;> exact fun _ => rfl
theorem small_stride (t : Fin 2) : ∀ a, (small t).stride a = 1 := by fin_cases t <;> exact fun _ => rfl

/-- Different pieces of a block share no row. -/
theorem big_disjoint (t t' : Fin 3) (h : t ≠ t') : Disjoint (big t).set (big t').set := by
  fin_cases t <;> fin_cases t' <;> first
    | exact absurd rfl h
    | exact Rect.unit_disjoint (1 : Fin 3) (by decide)
theorem small_disjoint (t t' : Fin 2) (h : t ≠ t') : Disjoint (small t).set (small t').set := by
  fin_cases t <;> fin_cases t' <;> first
    | exact absurd rfl h
    | exact Rect.unit_disjoint (1 : Fin 3) (by decide)

/-- The three pieces are the whole block. -/
theorem big_cover : (Finset.univ : Finset (Fin 3)).biUnion (fun t => (big t).set) = Finset.univ := by
  refine Finset.eq_univ_iff_forall.mpr fun i => ?_
  have h0 : (i 0).val < 1 := (i 0).isLt
  have h1 : (i 1).val < 4096 := (i 1).isLt
  have h2 : (i 2).val < 2048 := (i 2).isLt
  have key : ∀ t : Fin 3, (∀ a, (big t).off a ≤ i a ∧ (i a : ℕ) < (big t).off a + (big t).size a) → i ∈ Finset.univ.biUnion fun t => (big t).set := by
    intro t ht
    refine Finset.mem_biUnion.mpr ⟨t, Finset.mem_univ _, ?_⟩
    fin_cases t <;> exact Rect.mem_set_unit.mpr ht
  by_cases hD : (i 1).val < 3072
  · exact key 0 fun a => by fin_cases a <;> simp <;> omega
  by_cases hA : (i 1).val < 3584
  · exact key 1 fun a => by fin_cases a <;> simp <;> omega
  · exact key 2 fun a => by fin_cases a <;> simp <;> omega

theorem small_cover : (Finset.univ : Finset (Fin 2)).biUnion (fun t => (small t).set) = Finset.univ := by
  refine Finset.eq_univ_iff_forall.mpr fun i => ?_
  have h0 : (i 0).val < 1 := (i 0).isLt
  have h1 : (i 1).val < 1024 := (i 1).isLt
  have h2 : (i 2).val < 2048 := (i 2).isLt
  have key : ∀ t : Fin 2, (∀ a, (small t).off a ≤ i a ∧ (i a : ℕ) < (small t).off a + (small t).size a) → i ∈ Finset.univ.biUnion fun t => (small t).set := by
    intro t ht
    refine Finset.mem_biUnion.mpr ⟨t, Finset.mem_univ _, ?_⟩
    fin_cases t <;> exact Rect.mem_set_unit.mpr ht
  by_cases hA : (i 1).val < 512
  · exact key 0 fun a => by fin_cases a <;> simp <;> omega
  · exact key 1 fun a => by fin_cases a <;> simp <;> omega

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_two (Φ : Fin 2 → sProp 𝕄) : bigSep Finset.univ Φ = iprop(Φ 0 ∗ Φ 1) :=
  bigSep_univ_eq_bigSepL [0, 1] (by decide) (by decide) Φ

section
variable (c : Dev nD) {sp : Space} (M : Memref sig .tc sp S1x4096x2048 .f32) (X : S1x4096x2048.Idx → Elt F .f32)

omit [FloatOps F] in
/-- A block held at contents `X` is its three pieces held at their parts of `X`. -/
theorem cut : (ownsTc c M fullShare X : sProp 𝕄)
    ⊢ iprop(ownsTc c (M.slice rD (fun _ => rfl)) fullShare (fun j => X (rD.emb j))
      ∗ ownsTc c (M.slice rA (fun _ => rfl)) fullShare (fun j => X (rA.emb j))
      ∗ ownsTc c (M.slice rB (fun _ => rfl)) fullShare (fun j => X (rB.emb j))) :=
  (owns_rects (c : Thread nD τ) M fullShare big big_stride big_disjoint big_cover X).trans (Entails.of_eq (bigSep_three _))

/-- The three pieces held at their parts of `X` are the block held at `X`. -/
theorem uncut : iprop(ownsTc c (M.slice rD (fun _ => rfl)) fullShare (fun j => X (rD.emb j))
      ∗ ownsTc c (M.slice rA (fun _ => rfl)) fullShare (fun j => X (rA.emb j))
      ∗ ownsTc c (M.slice rB (fun _ => rfl)) fullShare (fun j => X (rB.emb j)))
    ⊢ (ownsTc c M fullShare X : sProp 𝕄) :=
  (Entails.of_eq (bigSep_three _).symm).trans (owns_of_rects (c : Thread nD τ) M fullShare big big_stride big_disjoint big_cover X)

omit [FloatOps F] in
/-- A block held is its three pieces held. -/
theorem cut_any : (anyOf c M : sProp 𝕄)
    ⊢ iprop(anyOf c (M.slice rD (fun _ => rfl)) ∗ anyOf c (M.slice rA (fun _ => rfl)) ∗ anyOf c (M.slice rB (fun _ => rfl))) := by
  unfold anyOf
  iintro ⟨%Y, H⟩
  ihave H := (cut c M Y) $$ H
  icases H with ⟨H0, H1, H2⟩
  isplitl [H0]; · iexists _; iexact H0
  isplitl [H1]; · iexists _; iexact H1
  iexists _; iexact H2
end

section
variable (c : Dev nD) {sp : Space} (M : Memref sig .tc sp S1x1024x2048 .f32)

omit [FloatOps F] in
/-- A landing buffer held is its two halves held. -/
theorem halve_any : (anyOf c M : sProp 𝕄) ⊢ iprop(anyOf c (M.slice qA (fun _ => rfl)) ∗ anyOf c (M.slice qB (fun _ => rfl))) := by
  unfold anyOf
  iintro ⟨%Y, H⟩
  ihave H := ((owns_rects (c : Thread nD τ) M fullShare small small_stride small_disjoint small_cover Y).trans (Entails.of_eq (bigSep_two _))) $$ H
  icases H with ⟨H0, H1⟩
  isplitl [H0]; · iexists _; iexact H0
  iexists _; iexact H1

/-- The two halves held are the landing buffer held. -/
theorem unhalve_any : iprop(anyOf c (M.slice qA (fun _ => rfl)) ∗ anyOf c (M.slice qB (fun _ => rfl))) ⊢ (anyOf c M : sProp 𝕄) := by
  unfold anyOf
  iintro ⟨⟨%Y, H0⟩, ⟨%Z, H1⟩⟩
  have hne : Nonempty (Elt F .f32) := (inferInstance : ∀ e, Nonempty (Elt F e)) .f32
  have e0 : (fun j => qA.overlay (qB.overlay (fun _ => Classical.arbitrary _) Z) Y (qA.emb j)) = Y :=
    funext fun j => qA.overlay_emb _ Y j
  have e1 : (fun j => qA.overlay (qB.overlay (fun _ => Classical.arbitrary _) Z) Y (qB.emb j)) = Z := funext fun j => by
    rw [Rect.overlay_of_not_mem, Rect.overlay_emb]
    exact fun h => Finset.disjoint_left.mp (small_disjoint 0 1 (by decide)) h (qB.map_emb_univ ▸ Finset.mem_map_of_mem _ (Finset.mem_univ j))
  iexists qA.overlay (qB.overlay (fun _ => Classical.arbitrary _) Z) Y
  iapply ((Entails.of_eq (bigSep_two _).symm).trans (owns_of_rects (c : Thread nD τ) M fullShare small small_stride small_disjoint small_cover _))
  isplitl [H0]
  · iapply (Entails.of_eq (congrArg (fun X => (ownsTc c (M.slice qA (fun _ => rfl)) fullShare X : sProp 𝕄)) e0.symm)); iexact H0
  · iapply (Entails.of_eq (congrArg (fun X => (ownsTc c (M.slice qB (fun _ => rfl)) fullShare X : sProp 𝕄)) e1.symm)); iexact H1
end

/-! ## What is in them -/

section
variable (m : (ℓ : Loc nD τ sig) → Buf (Elt F) ℓ)

/-- Device `c`'s block at launch, and its three pieces. -/
def vW (c : Dev nD) : S1x4096x2048.Idx → Elt F .f32 := m ((c : Thread nD τ).loc main_arg0)
def vD (c : Dev nD) : S1x3072x2048.Idx → Elt F .f32 := fun j => vW m c (rD.emb j)
def vA (c : Dev nD) : S1x512x2048.Idx → Elt F .f32 := fun j => vW m c (rA.emb j)
def vB (c : Dev nD) : S1x512x2048.Idx → Elt F .f32 := fun j => vW m c (rB.emb j)
end

end Cert.KernelIdeal.Hops

end
-- ==== Proof.KernelIdeal.Schedule.lean ====
/-
# The kernel's semaphores and what each of them hands over

Every device has the entry barrier and fourteen DMA semaphores: 1 and 2 are the sending and the receiving end of the
direct copy, 3 to 8 the sending and 9 to 14 the receiving ends of the three hops of pieces `A` and `B`; number 0
belongs to the pipeline. Each is raised in one round. The barrier hands the device the buffers its copies write on
its neighbours; a sending end hands the source piece back; a receiving end hands over the piece that has arrived.
-/
module

public import proofs.«01_k».proof.Proof.KernelIdeal.Pieces

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ)

/-! ## The semaphores -/

/-- The entry barrier, and the cells of device `c`. -/
abbrev barS : Sem sig := (SemArray.scalar (sig.barrier 0 rfl) : Sems sig S_).sem
abbrev barCell (c : Dev nD) : GSem nD τ sig := ((c : Thread nD τ), .reg barS)
abbrev dCell (c : Dev nD) (q : DmaSem sig) : GSem nD τ sig := ((c : Thread nD τ), .dma q)

/-- The semaphores by number: the barrier takes the number of the pipeline's own. -/
def csem (k : Fin 15) : SemLoc sig := if k = 0 then .reg barS else .dma k
def kcell (ck : Dev nD × Fin 15) : GSem nD τ sig := ((ck.1 : Thread nD τ), csem ck.2)

theorem kcell_bar (c : Dev nD) : kcell (c, 0) = barCell c := rfl
theorem kcell_dma (c : Dev nD) {q : DmaSem sig} (hq : q ≠ 0) : kcell (c, q) = dCell c q := by
  unfold kcell csem; rw [if_neg hq]

theorem csem_injective : Function.Injective csem := by
  intro k k' h
  unfold csem at h
  split at h <;> split at h
  · rename_i h1 h2; rw [h1, h2]
  · cases h
  · cases h
  · exact SemLoc.dma.inj h

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## What they hand over -/

/-- The barrier's unit from the device that sends to `c`'s far side: the landing halves and the result's last two
    pieces of the device `c` relays to. -/
def barFwd (c : Dev nD) : sProp 𝕄 :=
  iprop(anyOf (π.src c) t1A ∗ anyOf (π.src c) t1B ∗ anyOf (π.src c) t2A ∗ anyOf (π.src c) t2B ∗ anyOf (π.src c) oA ∗ anyOf (π.src c) oB)
/-- Its unit from the device `c` copies to directly: that device's first piece of the result. -/
def barBack (c : Dev nD) : sProp 𝕄 := anyOf (π.dst c) oD
/-- For devices exchanging blocks: the opposite device's whole result. -/
def barHalf (c : Dev nD) : sProp 𝕄 := anyOf (π.src c) oM

/-- What device `c`'s barrier hands over with the unit named `d`. -/
def barPay (c : Dev nD) (d : Bool) : sProp 𝕄 :=
  if π.half c then barHalf π c else if d then barBack π c else barFwd π c

/-- What device `c`'s DMA semaphore hands over. -/
def dmaPay (c : Dev nD) : DmaSem sig → sProp 𝕄
  | 1 => if π.half c then ownsTc c xM fullShare (vW m c) else ownsTc c xD fullShare (vD m c)
  | 2 => if π.half c then ownsTc c oM fullShare (vW m (π.src c)) else ownsTc c oD fullShare (vD m (π.src c))
  | 3 => ownsTc c xA fullShare (vA m c)
  | 4 => ownsTc c xB fullShare (vB m c)
  | 5 => ownsTc c t1A fullShare (vA m (π.dst c))
  | 6 => ownsTc c t1B fullShare (vB m (π.dst c))
  | 7 => ownsTc c t2A fullShare (vA m (π.dst (π.dst c)))
  | 8 => ownsTc c t2B fullShare (vB m (π.dst (π.dst c)))
  | 9 => ownsTc c t1A fullShare (vA m (π.dst c))
  | 10 => ownsTc c t1B fullShare (vB m (π.dst c))
  | 11 => ownsTc c t2A fullShare (vA m (π.dst (π.dst c)))
  | 12 => ownsTc c t2B fullShare (vB m (π.dst (π.dst c)))
  | 13 => ownsTc c oA fullShare (vA m (π.dst (π.dst (π.dst c))))
  | 14 => ownsTc c oB fullShare (vB m (π.dst (π.dst (π.dst c))))
  | _ => iprop(emp)

instance barPay_storable (c : Dev nD) (d : Bool) : BI.Storable (upEmb : UEmb _ 𝕄) (barPay (F := F) π c d) := by
  unfold barPay barHalf barBack barFwd; (repeat' split) <;> infer_instance

instance dmaPay_storable (c : Dev nD) (q : DmaSem sig) : BI.Storable (upEmb : UEmb _ 𝕄) (dmaPay (F := F) π m c q) := by
  unfold dmaPay; (repeat' split) <;> infer_instance

/-- How much DMA semaphore `q` is raised by, on a device that exchanges blocks (`h`) or not. -/
def amt (h : Prop) [Decidable h] (q : DmaSem sig) : ℕ := if 3 ≤ q.val then NS else if h then NW else ND

theorem amt_pos (h : Prop) [Decidable h] (q : DmaSem sig) : 0 < amt h q := by
  unfold amt; split
  · exact NS_pos
  split
  · exact NW_pos
  · exact ND_pos

/-- The units a semaphore of a device is raised by, named. -/
def dutiesOf (h : Prop) [Decidable h] : SemLoc sig → Finset Bool
  | .reg _ => if h then {false} else Finset.univ
  | .dma q => if q = 0 ∨ 3 ≤ q.val ∧ h then ∅ else {false}

/-- The schedule: one round. -/
def hopRd : Rounds.Schedule (GSem nD τ sig) Bool 𝕄 where
  duties g r := if r = 0 ∧ g.1.2 = .tc then dutiesOf (π.half g.1.1) g.2 else ∅
  unitless _ := False
  amount g _ _ := match g.2 with
    | .reg _ => 1
    | .dma q => amt (π.half g.1.1) q
  payload g _ d := match g.2 with
    | .reg _ => barPay π g.1.1 d
    | .dma q => dmaPay π m g.1.1 q
  amount_pos g _ _ _ := by
    cases g.2 with
    | reg _ => exact Nat.one_pos
    | dma q => exact amt_pos _ q

instance hopRd_payload_storable (g : GSem nD τ sig) (r : ℕ) (d : Bool) :
    BI.Storable (upEmb : UEmb _ 𝕄) ((hopRd (F := F) π m).payload g r d) := by
  rcases g with ⟨t, _ | q⟩
  · exact barPay_storable π t.1 d
  · exact dmaPay_storable π m t.1 q

/-! ## The schedule read at a cell -/

section Sched
variable (c : Dev nD)

/-- Semaphore `q` of device `c` is raised by a copy. -/
abbrev Live (q : DmaSem sig) : Prop := q ≠ 0 ∧ (q.val < 3 ∨ ¬ π.half c)

omit [FloatOps F] in
theorem duties_later (g : GSem nD τ sig) : ∀ r, 1 ≤ r → (hopRd (F := F) π m).duties g r = ∅ :=
  fun r hr => if_neg fun h => by omega

omit [FloatOps F] in
theorem duties_zero (sm : SemLoc sig) : (hopRd (F := F) π m).duties ((c : Thread nD τ), sm) 0 = dutiesOf (π.half c) sm := by
  dsimp only [hopRd]; exact if_pos ⟨rfl, rfl⟩
omit [FloatOps F] in
theorem duties_bar : (hopRd (F := F) π m).duties (barCell c) 0 = if π.half c then {false} else Finset.univ := duties_zero π m c _
omit [FloatOps F] in
theorem duties_dma {q : DmaSem sig} (h : Live π c q) : (hopRd (F := F) π m).duties (dCell c q) 0 = {false} := by
  rw [duties_zero]; unfold dutiesOf
  refine if_neg ?_
  rintro (h0 | ⟨h1, h2⟩)
  · exact h.1 h0
  · rcases h.2 with h3 | h3
    · omega
    · exact h3 h2
omit [FloatOps F] in
/-- A device that exchanges blocks uses none of the hops' semaphores. -/
theorem duties_idle {q : DmaSem sig} (h : π.half c) (hq : 3 ≤ q.val) : ∀ r, 0 ≤ r → (hopRd (F := F) π m).duties (dCell c q) r = ∅ := by
  rintro (_ | r) _
  · rw [duties_zero]; unfold dutiesOf; exact if_pos (.inr ⟨hq, h⟩)
  · exact duties_later π m _ _ (Nat.le_add_left 1 r)

omit [FloatOps F] in
theorem amount_bar (d : Bool) : (hopRd (F := F) π m).amount (barCell c) 0 d = 1 := rfl
omit [FloatOps F] in
theorem amount_dma (q : DmaSem sig) (d : Bool) : (hopRd (F := F) π m).amount (dCell c q) 0 d = amt (π.half c) q := rfl
omit [FloatOps F] in
theorem payload_bar (d : Bool) : (hopRd (F := F) π m).payload (barCell c) 0 d = barPay π c d := rfl
omit [FloatOps F] in
theorem payload_dma (q : DmaSem sig) (d : Bool) : (hopRd (F := F) π m).payload (dCell c q) 0 d = dmaPay π m c q := rfl

omit [FloatOps F] in
theorem expect_bar : (hopRd (F := F) π m).expect (barCell c) 0 = if π.half c then 1 else 2 := by
  unfold Schedule.expect Schedule.amountOf
  rw [duties_bar, Finset.sum_congr rfl fun d _ => amount_bar π m c d, Finset.sum_const]
  split <;> rfl
omit [FloatOps F] in
theorem expect_dma {q : DmaSem sig} (h : Live π c q) : (hopRd (F := F) π m).expect (dCell c q) 0 = amt (π.half c) q := by
  unfold Schedule.expect Schedule.amountOf; rw [duties_dma π m c h, Finset.sum_singleton, amount_dma]

omit [FloatOps F] in
/-- All the barrier hands a device that exchanges blocks; -/
theorem rest_bar_half (h : π.half c) :
    bigSep ((hopRd (F := F) π m).duties (barCell c) 0 \ ∅) (fun d => (hopRd (F := F) π m).payload (barCell c) 0 d) = barHalf π c := by
  rw [Finset.sdiff_empty, duties_bar, if_pos h, bigSep_singleton, payload_bar]; unfold barPay; rw [if_pos h]
omit [FloatOps F] in
/-- and any other device. -/
theorem rest_bar_hops (h : ¬ π.half c) :
    bigSep ((hopRd (F := F) π m).duties (barCell c) 0 \ ∅) (fun d => (hopRd (F := F) π m).payload (barCell c) 0 d) = iprop(barFwd π c ∗ barBack π c) := by
  rw [Finset.sdiff_empty, duties_bar, if_neg h, bigSep_univ_eq_bigSepL [false, true] (by decide) (by decide), bigSepL_cons_cons, bigSepL_singleton,
    payload_bar, payload_bar]
  unfold barPay; rw [if_neg h, if_neg h]; rfl
omit [FloatOps F] in
theorem rest_dma {q : DmaSem sig} (h : Live π c q) :
    bigSep ((hopRd (F := F) π m).duties (dCell c q) 0 \ ∅) (fun d => (hopRd (F := F) π m).payload (dCell c q) 0 d) = dmaPay π m c q := by
  rw [Finset.sdiff_empty, duties_dma π m c h, bigSep_singleton, payload_dma]

end Sched

/-! ## What a device still owes, and the levels -/

/-- What is owed: a list of cells and amounts, in the order they are paid. -/
def dues : List (GSem nD τ sig × ℕ) → CellTallies nD τ sig Unit
  | [] => 0
  | p :: l => dues l + tallyAt p.1 () p.2

theorem dues_pos {l : List (GSem nD τ sig × ℕ)} {g : GSem nD τ sig} {u : Unit} (h : 0 < dues l g u) : ∃ p ∈ l, p.1 = g := by
  induction l with
  | nil => exact absurd h (Nat.lt_irrefl 0)
  | cons p l ih =>
    unfold dues at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨p', hp', e⟩ := ih h
      exact ⟨p', List.mem_cons_of_mem _ hp', e⟩

def L (g : GSem nD τ sig) : Finset Unit := if g.1.2 = .tc then {()} else ∅
/-- The sending ends lowest, then the barrier, the direct copy's receiving end, and the hops' receiving ends in order. -/
def lv (g : GSem nD τ sig) (_ : Unit) : ℕ := match g.2 with
  | .reg _ => 1
  | .dma q => if 9 ≤ q.val then q.val else if q.val = 2 then 2 else 0

theorem L_of_ne (g : GSem nD τ sig) (h : g.1.2 ≠ .tc) : L g = ∅ := if_neg h

/-- Everything still owed lies above the cell waited on. -/
def Above (sm : SemLoc sig) (c : Dev nD) (l : List (GSem nD τ sig × ℕ)) : Prop :=
  ∀ p ∈ l, p.1.1.2 = .tc ∧ lv ((c : Thread nD τ), sm) () < lv p.1 ()

omit [FloatOps F] in
/-- Such a wait is allowed. -/
theorem mayWait (c : Dev nD) (sm : SemLoc sig) (l : List (GSem nD τ sig × ℕ)) (h : Above sm c l) :
    (levAts L lv : sProp 𝕄) ⊢ MayWait (c : Thread nD τ) sm () (dues l) :=
  MayOwe.of_cut (L := L) (lev := lv) (lv ((c : Thread nD τ), sm) ())
    (fun p hp => by rw [Finset.mem_singleton.mp hp]; unfold L; rw [if_pos rfl]; exact Finset.mem_singleton_self _)
    (fun g u hg => by
      obtain ⟨p, hp, rfl⟩ := dues_pos hg
      unfold L; rw [if_pos (h p hp).1]; exact Finset.mem_singleton_self _)
    (fun p hp => by rw [Finset.mem_singleton.mp hp])
    (fun g u hg => by
      obtain ⟨p, hp, rfl⟩ := dues_pos hg
      exact (h p hp).2)

/-- Device `c` owes the list `l`. -/
def owing (c : Dev nD) (l : List (GSem nD τ sig × ℕ)) : sProp 𝕄 := iprop(∃ W, owes (c : Thread nD τ) (dues l) W)

end Cert.KernelIdeal.Hops

end
-- ==== Proof.KernelIdeal.Steps.lean ====
/-
# One operation at a time

The four things the kernel does — signal a barrier, wait for it, start a copy to another device, wait for one — each
as a rule over the pieces of `Pieces` and the schedule of `Schedule`.
-/
module

public import proofs.«01_k».proof.Proof.KernelIdeal.Schedule

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (K : Dev nD × Fin 15 → ℕ)

abbrev 𝒱₀ : Variants := Variants.none

/-- What every device knows: all the cells' invariants, and that every cell has reached its round. -/
def records : sProp 𝕄 :=
  iprop((bigSep Finset.univ fun ck : Dev nD × Fin 15 => cellInv ER (hopRd π m) (K ck) (kcell ck))
    ∗ bigSep Finset.univ fun ck : Dev nD × Fin 15 => reached ER (kcell ck) 0)

instance records_persistent : BI.Persistent (records π m K) := by unfold records; infer_instance

omit [FloatOps F] in
theorem inv_at (ck : Dev nD × Fin 15) : records π m K ⊢ cellInv ER (hopRd π m) (K ck) (kcell ck) := by
  unfold records
  exact sep_elim_left.trans (bigSep_elim (Φ := fun ck : Dev nD × Fin 15 => (cellInv ER (hopRd π m) (K ck) (kcell ck) : sProp 𝕄)) (Finset.mem_univ ck))
omit [FloatOps F] in
theorem reached_at (ck : Dev nD × Fin 15) : records π m K ⊢ reached ER (kcell ck) 0 := by
  unfold records
  exact sep_elim_right.trans (bigSep_elim (Φ := fun ck : Dev nD × Fin 15 => (reached ER (kcell ck) 0 : sProp 𝕄)) (Finset.mem_univ ck))
omit [FloatOps F] in
theorem inv_dma (c : Dev nD) {q : DmaSem sig} (hq : q ≠ 0) : records π m K ⊢ cellInv ER (hopRd π m) (K (c, q)) (dCell c q) := by
  rw [← kcell_dma c hq]; exact inv_at π m K (c, q)
omit [FloatOps F] in
theorem reached_dma (c : Dev nD) {q : DmaSem sig} (hq : q ≠ 0) : records π m K ⊢ reached ER (dCell c q) 0 := by
  rw [← kcell_dma c hq]; exact reached_at π m K (c, q)

omit [FloatOps F] in
/-- A semaphore no copy raises closes at once. -/
theorem close_idle (c : Dev nD) {q : DmaSem sig} (h : π.half c) (hq : 3 ≤ q.val) :
    iprop(records π m K ∗ atPos ER (dCell c q) 0 ∅ 0) ⊢ (|={Set.univ}=> semVal (dCell c q) 0 : sProp 𝕄) := by
  iintro ⟨#HR, Hat⟩
  iapply (Rounds.cell_close ER (hopRd π m) (Set.mem_univ (K (c, q))) (fun h => h) (R := 0) (duties_idle π m c h hq))
  isplitr
  · iapply (inv_dma π m K c (fun h0 => by rw [h0] at hq; exact absurd hq (by decide))); iexact HR
  iexact Hat

section
variable {α : Type} {k : PUnit → Prog (TpuEff nD τ sig (Elt F) Λ₀ .tc) α}

/-- The signal of `n`'s barrier that hands over the payload named `d`. -/
theorem wp_sig {Q : α → sProp 𝕄} (c n n' : Dev nD) (hn : n' = n) (d : Bool) (hd : d ∈ (hopRd (F := F) π m).duties (barCell n) 0) (l : List (GSem nD τ sig × ℕ)) :
    iprop(records π m K ∗ owing c ((barCell n, 1) :: l) ∗ dutyTok ER (barCell n) 0 d ∗ barPay π n d)
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS 1) k) Q) := by
  subst hn
  unfold owing
  iintro ⟨#HR, ⟨%W, HO⟩, Ht, Hp⟩ Hk
  iapply (Rounds.wp_signal 𝒱₀ ER (hopRd π m) (c : Thread nD τ) none (dst := (n' : Thread nD τ)) (κ := K (n', 0))
      (d := d) hd (amount_bar π m n' d) () (dues l) rfl) $$ [HO Ht Hp]
  · isplitr; · iapply (inv_at π m K (n', 0)); iexact HR
    isplitl [HO]; · iexact HO
    isplitl [Ht]; · iexact Ht
    isplitl [Hp]; · rw [payload_bar]; iexact Hp
    iapply (reached_at π m K (n', 0)); iexact HR
  iintro HO
  iapply Hk
  iexists W; iexact HO

/-- The wait on the own barrier: what it hands over, and its counter back at zero. -/
theorem wp_bar {Q : α → sProp 𝕄} (c : Dev nD) (N : ℕ) (hN : N = if π.half c then 1 else 2) (l : List (GSem nD τ sig × ℕ)) (h : Above (.reg barS) c l) (P : sProp 𝕄)
    (hP : bigSep ((hopRd (F := F) π m).duties (barCell c) 0 \ ∅) (fun d => (hopRd (F := F) π m).payload (barCell c) 0 d) = P) :
    iprop(records π m K ∗ levAts L lv ∗ cred (tallyAt (barCell c) () N) ∗ owing c l ∗ atPos ER (barCell c) 0 ∅ 0)
      ⊢ iprop(((owing c l ∗ semVal (barCell c) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS N) k) Q) := by
  unfold owing
  iintro ⟨#HR, #Hlev, Hc, ⟨%W, HO⟩, Hat⟩ Hk
  iapply (Rounds.wp_wait_rest_token 𝒱₀ ER (hopRd π m) (c : Thread nD τ) none (κ := K (c, 0))
      (wpE_semWait_eq 𝒱₀ (c : Thread nD τ) none Set.univ) (Set.mem_univ _) () (O := dues l) (W := W) (R := 0) (m := 0) (T := ∅)
      (by rw [expect_bar, hN, Nat.zero_add])) $$ [Hc HO Hat]
  · isplitr; · iapply (inv_at π m K (c, 0)); iexact HR
    isplitl [Hc]; · iexact Hc
    isplitl [HO]; · iexact HO
    isplitr; · iapply (mayWait c _ l h); iexact Hlev
    iexact Hat
  iintro ⟨HO, Hat, -, Hpay⟩
  ihave Hp := (Entails.of_eq hP) $$ Hpay
  imod (Rounds.cell_close ER (hopRd π m) (Set.mem_univ (K (c, 0))) (fun h => h) (R := 0 + 1) (duties_later π m (barCell c))) $$ [Hat] with Hz
  · isplitr; · iapply (inv_at π m K (c, 0)); iexact HR
    iexact Hat
  iapply Hk
  isplitl [HO]; · iexists _; iexact HO
  isplitl [Hz]; · iexact Hz
  iexact Hp

/-- The wait on the own DMA semaphore `q`: what it hands over, and its counter back at zero. -/
theorem wp_got {Q : α → sProp 𝕄} (c : Dev nD) (q : DmaSem sig) (hq : Live π c q) {sp sp' : Space} {s s' : Shape} {e e' : EltTy} {src : Memref sig .tc sp' s' e'}
    {dst : Memref sig .tc sp s e} {hsrc : src.view.WordExact} {hdst : dst.view.WordExact} (hN : dst.view.dmaCredit = amt (π.half c) q)
    (l : List (GSem nD τ sig × ℕ)) (h : Above (.dma q) c l) :
    iprop(records π m K ∗ levAts L lv ∗ cred (tallyAt (dCell c q) () (amt (π.half c) q)) ∗ owing c l ∗ atPos ER (dCell c q) 0 ∅ 0)
      ⊢ iprop(((owing c l ∗ semVal (dCell c q) 0 ∗ dmaPay π m c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owing
  rw [← hN]
  iintro ⟨#HR, #Hlev, Hc, ⟨%W, HO⟩, Hat⟩ Hk
  iapply (Rounds.wp_wait_rest_token 𝒱₀ ER (hopRd π m) (c : Thread nD τ) none (κ := K (c, q))
      (wpE_waitDma2_eq 𝒱₀ (c : Thread nD τ) none Set.univ) (Set.mem_univ _) () (O := dues l) (W := W) (R := 0) (m := 0) (T := ∅)
      (by rw [expect_dma π m c hq, hN, Nat.zero_add])) $$ [Hc HO Hat]
  · isplitr; · iapply (inv_dma π m K c hq.1); iexact HR
    isplitl [Hc]; · iexact Hc
    isplitl [HO]; · iexact HO
    isplitr; · iapply (mayWait c _ l h); iexact Hlev
    iexact Hat
  iintro ⟨HO, Hat, -, Hpay⟩
  ihave Hp := (Entails.of_eq (rest_dma π m c hq)) $$ Hpay
  imod (Rounds.cell_close ER (hopRd π m) (Set.mem_univ (K (c, q))) (fun h => h) (R := 0 + 1) (duties_later π m (dCell c q))) $$ [Hat] with Hz
  · isplitr; · iapply (inv_dma π m K c hq.1); iexact HR
    iexact Hat
  iapply Hk
  isplitl [HO]; · iexists _; iexact HO
  isplitl [Hz]; · iexact Hz
  iexact Hp

/-- The start of a copy of a piece holding `X` to device `n`: sending end `a` here, receiving end `b` there. -/
theorem wp_put {Q : α → sProp 𝕄} (c n n' : Dev nD) (hn : n' = n) (a b : DmaSem sig) (ha : Live π c a) (hb : Live π n b) {sp sp' : Space} {s : Shape} {e : EltTy}
    (src : Memref sig .tc sp s e) (dst : Memref sig .tc sp' s e)
    {hsc : (dst : Memref sig (Dev.tc n' : Thread nD τ).2.kind sp' s e).view.ref.isScScratch = false}
    {hsrc : src.view.WordExact} {hdst : dst.view.WordExact}
    {hsem : DmaTarget.Typed sp (.dma b) (.remote (Dev.tc n' : Thread nD τ) dst (.dma a) hsc)}
    (hN₁ : dst.view.dmaCredit = amt (π.half c) a) (hN₂ : dst.view.dmaCredit = amt (π.half n) b) (X : s.Idx → Elt F e)
    (hp₁ : ownsTc c src fullShare X ⊢ dmaPay π m c a) (hp₂ : ownsTc n dst fullShare X ⊢ dmaPay π m n b) (l : List (GSem nD τ sig × ℕ)) :
    iprop(records π m K ∗ ownsTc c src fullShare X ∗ anyOf n dst ∗ owing c ((dCell n b, amt (π.half n) b) :: l)
        ∗ dutyTok ER (dCell c a) 0 false ∗ dutyTok ER (dCell n b) 0 false)
      ⊢ iprop(((cred (tallyAt (dCell c a) () (amt (π.half c) a)) ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma a) hsc) (.dma b) hsrc hdst hsem) k) Q) := by
  subst hn
  rw [← hN₁, ← hN₂]
  unfold owing anyOf
  iintro ⟨#HR, Hs, ⟨%Y, Hd⟩, ⟨%W, HO⟩, Hta, Htb⟩ Hk
  ihave Hs' := (show ownsTc c src fullShare X ⊢ iprop(∃ f, ⌜src.view.read (Elt F) f = X⌝ ∗ src.view.loc (c : Thread nD τ) ↦[src.view.set]{fullShare} f) from .rfl) $$ Hs
  icases Hs' with ⟨%fs, %hfs, Hs⟩
  ihave Hd' := (show ownsTc n' dst fullShare Y ⊢ iprop(∃ f, ⌜dst.view.read (Elt F) f = Y⌝ ∗ dst.view.loc (n' : Thread nD τ) ↦[dst.view.set]{fullShare} f) from .rfl) $$ Hd
  icases Hd' with ⟨%fd, %hfd, Hd⟩
  subst hfs
  iapply (Rounds.wp_send_pointsTo 𝒱₀ ER (hopRd π m) (c : Thread nD τ) none (κ₁ := K (c, a)) (κ₂ := K (n', b))
    (sS := .dma a) (sem := .dma b) (r₁ := 0) (r₂ := 0) (d₁ := false) (d₂ := false) (fs := fs) (fd := fd)
    (by rw [duties_dma π m c ha]; exact Finset.mem_singleton_self _) (by rw [duties_dma π m n' hb]; exact Finset.mem_singleton_self _)
    () () dst.view.dmaCredit rfl ((amount_dma π m c a false).trans hN₁.symm) ((amount_dma π m n' b false).trans hN₂.symm) (dues l) rfl (W := W)
    ((owns_intro (c : Thread nD τ) src fullShare fs).trans (hp₁.trans (Entails.of_eq (payload_dma π m c a false).symm)))
    (((owns_intro (n' : Thread nD τ) dst fullShare _).trans (Entails.of_eq (congrArg (fun X => (ownsTc n' dst fullShare X : sProp 𝕄))
      (View.read_write_univ _ _)))).trans (hp₂.trans (Entails.of_eq (payload_dma π m n' b false).symm)))) $$ [Hs Hd HO Hta Htb]
  · isplitr; · iapply (inv_dma π m K c ha.1); iexact HR
    isplitr; · iapply (inv_dma π m K n' hb.1); iexact HR
    isplitl [Hs]; · iexact Hs
    isplitl [Hd]; · iexact Hd
    isplitl [HO]; · iexact HO
    isplitl [Hta]; · iexact Hta
    isplitr; · iapply (reached_dma π m K c ha.1); iexact HR
    isplitl [Htb]; · iexact Htb
    iapply (reached_dma π m K n' hb.1); iexact HR
  iintro ⟨Hc, HO⟩
  iapply Hk
  isplitl [Hc]; · iexact Hc
  iexists W; iexact HO

end

end Cert.KernelIdeal.Hops

end
-- ==== Proof.KernelIdeal.Words.lean ====
/-
# What the kernel computes from its entry of the permutation

Device `c` reads one word, the number of the device its block goes to. From it the kernel computes whether it
exchanges blocks with the opposite device, and the devices its signals and copies name: the device it sends to, or the
device before it on its cycle.
-/
module

public import proofs.«01_k».proof.Proof.KernelIdeal.Steps

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan)

/-- The word that names device `a`. -/
abbrev wordOf (a : Dev nD) : BitVec 32 := BitVec.ofNat 32 a.val

theorem chk_word : ∀ c a : Dev nD, k0_chk1 c (wordOf a) := by decide
theorem cond1_word : ∀ c a : Dev nD, k0_cond1 c (wordOf a) = 1#1 ↔ Opp c a := by decide
theorem cond2_word : ∀ c a : Dev nD, k0_cond2 c (wordOf a) = 1#1 ↔ ¬ Opp c a := by decide
theorem far_word : ∀ a : Dev nD, k0_dev1 (wordOf a) = a.val ∧ k0_dev2 (wordOf a) = a.val ∧ k0_dev3 (wordOf a) = a.val ∧ k0_dev5 (wordOf a) = a.val := by decide
theorem rev_word : ∀ c a : Dev nD, k0_dev4 c (wordOf a) = (c.val + 4 - (a.val + 4 - c.val) % 4) % 4 := by decide

section
variable {c : Dev nD} {w : BitVec 32} (hw : w = wordOf (π.dst c))
include hw

theorem chk_of : k0_chk1 c w := by rw [hw]; exact chk_word _ _
theorem cond1_iff : k0_cond1 c w = 1#1 ↔ π.half c := by rw [hw]; exact cond1_word _ _
theorem cond2_iff : k0_cond2 c w = 1#1 ↔ ¬ π.half c := by rw [hw]; exact cond2_word _ _

theorem dev1_eq (hlt) : (⟨k0_dev1 w, hlt⟩ : Dev nD) = π.dst c := Fin.ext (by simp only [hw]; exact (far_word _).1)
theorem dev2_eq (hlt) : (⟨k0_dev2 w, hlt⟩ : Dev nD) = π.dst c := Fin.ext (by simp only [hw]; exact (far_word _).2.1)
theorem dev3_eq (hlt) : (⟨k0_dev3 w, hlt⟩ : Dev nD) = π.dst c := Fin.ext (by simp only [hw]; exact (far_word _).2.2.1)
theorem dev5_eq (hlt) : (⟨k0_dev5 w, hlt⟩ : Dev nD) = π.dst c := Fin.ext (by simp only [hw]; exact (far_word _).2.2.2)

variable (h : ¬ π.half c)
include h

theorem dev4_val : k0_dev4 c w = (π.src c).val := by rw [hw, rev_word]; exact π.rev_eq c h
theorem dev4_eq (hlt) : (⟨k0_dev4 c w, hlt⟩ : Dev nD) = π.src c := Fin.ext (dev4_val π hw h)
theorem dev6_eq (hlt) : (⟨k0_dev6 c w, hlt⟩ : Dev nD) = π.src c := Fin.ext (dev4_val π hw h)
theorem dev7_eq (hlt) : (⟨k0_dev7 c w, hlt⟩ : Dev nD) = π.src c := Fin.ext (dev4_val π hw h)
theorem dev8_eq (hlt) : (⟨k0_dev8 c w, hlt⟩ : Dev nD) = π.src c := Fin.ext (dev4_val π hw h)
theorem dev9_eq (hlt) : (⟨k0_dev9 c w, hlt⟩ : Dev nD) = π.src c := Fin.ext (dev4_val π hw h)
theorem dev10_eq (hlt) : (⟨k0_dev10 c w, hlt⟩ : Dev nD) = π.src c := Fin.ext (dev4_val π hw h)
theorem dev11_eq (hlt) : (⟨k0_dev11 c w, hlt⟩ : Dev nD) = π.src c := Fin.ext (dev4_val π hw h)
end

/-! ## The hops' semaphores -/

theorem snd00 : ((cc0_scratch4.slice (Rect.unit (s := S3x2) ![0, 0] ![1, 1] inb_S3x2_S1x1_0_0)).squeeze S_ squeezes_S1x1_S_).sem = (3 : DmaSem sig) := rfl
theorem snd01 : ((cc0_scratch4.slice (Rect.unit (s := S3x2) ![0, 1] ![1, 1] inb_S3x2_S1x1_0_1)).squeeze S_ squeezes_S1x1_S_).sem = (4 : DmaSem sig) := rfl
theorem snd10 : ((cc0_scratch4.slice (Rect.unit (s := S3x2) ![1, 0] ![1, 1] inb_S3x2_S1x1_1_0)).squeeze S_ squeezes_S1x1_S_).sem = (5 : DmaSem sig) := rfl
theorem snd11 : ((cc0_scratch4.slice (Rect.unit (s := S3x2) ![1, 1] ![1, 1] inb_S3x2_S1x1_1_1)).squeeze S_ squeezes_S1x1_S_).sem = (6 : DmaSem sig) := rfl
theorem snd20 : ((cc0_scratch4.slice (Rect.unit (s := S3x2) ![2, 0] ![1, 1] inb_S3x2_S1x1_2_0)).squeeze S_ squeezes_S1x1_S_).sem = (7 : DmaSem sig) := rfl
theorem snd21 : ((cc0_scratch4.slice (Rect.unit (s := S3x2) ![2, 1] ![1, 1] inb_S3x2_S1x1_2_1)).squeeze S_ squeezes_S1x1_S_).sem = (8 : DmaSem sig) := rfl
theorem rcv00 : ((cc0_scratch5.slice (Rect.unit (s := S3x2) ![0, 0] ![1, 1] inb_S3x2_S1x1_0_0)).squeeze S_ squeezes_S1x1_S_).sem = (9 : DmaSem sig) := rfl
theorem rcv01 : ((cc0_scratch5.slice (Rect.unit (s := S3x2) ![0, 1] ![1, 1] inb_S3x2_S1x1_0_1)).squeeze S_ squeezes_S1x1_S_).sem = (10 : DmaSem sig) := rfl
theorem rcv10 : ((cc0_scratch5.slice (Rect.unit (s := S3x2) ![1, 0] ![1, 1] inb_S3x2_S1x1_1_0)).squeeze S_ squeezes_S1x1_S_).sem = (11 : DmaSem sig) := rfl
theorem rcv11 : ((cc0_scratch5.slice (Rect.unit (s := S3x2) ![1, 1] ![1, 1] inb_S3x2_S1x1_1_1)).squeeze S_ squeezes_S1x1_S_).sem = (12 : DmaSem sig) := rfl
theorem rcv20 : ((cc0_scratch5.slice (Rect.unit (s := S3x2) ![2, 0] ![1, 1] inb_S3x2_S1x1_2_0)).squeeze S_ squeezes_S1x1_S_).sem = (13 : DmaSem sig) := rfl
theorem rcv21 : ((cc0_scratch5.slice (Rect.unit (s := S3x2) ![2, 1] ![1, 1] inb_S3x2_S1x1_2_1)).squeeze S_ squeezes_S1x1_S_).sem = (14 : DmaSem sig) := rfl
theorem far_snd : (cc0_scratch2 : DmaSems sig S_).sem = (1 : DmaSem sig) := rfl
theorem far_rcv : (cc0_scratch3 : DmaSems sig S_).sem = (2 : DmaSem sig) := rfl
theorem one_int : (1#32 : BitVec 32).toInt = 1 := by decide
theorem one_unit : (1#32 : BitVec 32).toInt = ((1 : ℕ) : ℤ) := by decide
theorem two_units : (2#32 : BitVec 32).toInt = ((2 : ℕ) : ℤ) := by decide

/-! ## What a device pays, in order -/

/-- The credit of hop semaphore `q` of the device before it. -/
abbrev hopDue (c : Dev nD) (q : DmaSem sig) : GSem nD τ sig × ℕ := (dCell (π.src c) q, amt (π.half (π.src c)) q)
/-- The credit of the direct copy. -/
abbrev farDue (c : Dev nD) : GSem nD τ sig × ℕ := (dCell (π.dst c) 2, amt (π.half (π.dst c)) 2)
abbrev due4 (c : Dev nD) : List (GSem nD τ sig × ℕ) := [hopDue π c 11, hopDue π c 12, hopDue π c 13, hopDue π c 14]
abbrev due7 (c : Dev nD) : List (GSem nD τ sig × ℕ) := farDue π c :: hopDue π c 9 :: hopDue π c 10 :: due4 π c
abbrev due9 (c : Dev nD) : List (GSem nD τ sig × ℕ) := (barCell (π.dst c), 1) :: (barCell (π.src c), 1) :: due7 π c
abbrev dueHalf (c : Dev nD) : List (GSem nD τ sig × ℕ) := [(barCell (π.dst c), 1), farDue π c]
/-- All a device pays from the launch on. -/
def due (c : Dev nD) : List (GSem nD τ sig × ℕ) := if π.half c then dueHalf π c else due9 π c

theorem above_nil (sm : SemLoc sig) (c : Dev nD) : Above sm c [] := fun p hp => absurd hp List.not_mem_nil
theorem above_cons {sm : SemLoc sig} {c n : Dev nD} {sm' : SemLoc sig} {N : ℕ} {l : List (GSem nD τ sig × ℕ)}
    (h : lv ((c : Thread nD τ), sm) () < lv ((n : Thread nD τ), sm') ()) (hl : Above sm c l) : Above sm c ((((n : Thread nD τ), sm'), N) :: l) := by
  intro p hp
  rcases List.mem_cons.mp hp with rfl | hp
  · exact ⟨rfl, h⟩
  · exact hl p hp

/-- A receiving end of a hop lies below the later ones. -/
theorem lv_hop {c n : Dev nD} {q q' : DmaSem sig} (hq : 9 ≤ q.val) (h : q.val < q'.val) :
    lv ((c : Thread nD τ), .dma q) () < lv ((n : Thread nD τ), .dma q') () := by
  dsimp only [lv]; rw [if_pos hq, if_pos (by omega)]; exact h
/-- The barrier, and every cell at level zero, lies below every receiving end; -/
theorem lv_recv {g : GSem nD τ sig} {n : Dev nD} {q' : DmaSem sig} (hg : lv g () ≤ 1) (h : q'.val = 2 ∨ 9 ≤ q'.val) :
    lv g () < lv ((n : Thread nD τ), .dma q') () := by
  refine Nat.lt_of_le_of_lt hg ?_
  dsimp only [lv]; split
  · omega
  split
  · omega
  · omega
/-- and a cell at level zero below the barrier. -/
theorem lv_bar {g : GSem nD τ sig} {n : Dev nD} (hg : lv g () = 0) : lv g () < lv (barCell n) () := by rw [hg]; exact Nat.one_pos

/-- A cell not above the barrier's level lies below all the receiving ends owed. -/
theorem above7 {sm : SemLoc sig} {c : Dev nD} (h : lv ((c : Thread nD τ), sm) () ≤ 1) : Above sm c (due7 π c) :=
  above_cons (lv_recv h (by decide)) (above_cons (lv_recv h (by decide)) (above_cons (lv_recv h (by decide)) (above_cons (lv_recv h (by decide))
    (above_cons (lv_recv h (by decide)) (above_cons (lv_recv h (by decide)) (above_cons (lv_recv h (by decide)) (above_nil _ _)))))))
theorem aboveFar {sm : SemLoc sig} {c : Dev nD} (h : lv ((c : Thread nD τ), sm) () ≤ 1) : Above sm c [farDue π c] :=
  above_cons (lv_recv h (by decide)) (above_nil _ _)
/-- A cell at level zero lies below all a device owes at launch. -/
theorem aboveDue {sm : SemLoc sig} {c : Dev nD} (h : lv ((c : Thread nD τ), sm) () = 0) : Above sm c (due π c) := by
  unfold due; split
  · exact above_cons (lv_bar h) (aboveFar π (by rw [h]; decide))
  · exact above_cons (lv_bar h) (above_cons (lv_bar h) (above7 π (by rw [h]; decide)))

end Cert.KernelIdeal.Hops

end
-- ==== Proof.KernelIdeal.Hops.lean ====
/-
# A device that relays

Between the entry barrier and its last wait a device that does not exchange blocks copies piece `D` of its block to the
device it sends to, and passes pieces `A` and `B` backwards round the cycle through three hops. Here one relay — wait
for a piece, send it on — as a rule, and the whole branch from what the launch hands the device to its result.
-/
module

public import proofs.«01_k».proof.Proof.KernelIdeal.Words

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (K : Dev nD × Fin 15 → ℕ)

/-! ## What a device is handed -/

/-- `Φ` at each of device `c`'s semaphores: the barrier, then the DMA semaphores 1 to 14. -/
def each (Φ : GSem nD τ sig → sProp 𝕄) (c : Dev nD) : sProp 𝕄 :=
  iprop(Φ (barCell c) ∗ Φ (dCell c 1) ∗ Φ (dCell c 2) ∗ Φ (dCell c 3) ∗ Φ (dCell c 4) ∗ Φ (dCell c 5) ∗ Φ (dCell c 6) ∗ Φ (dCell c 7)
    ∗ Φ (dCell c 8) ∗ Φ (dCell c 9) ∗ Φ (dCell c 10) ∗ Φ (dCell c 11) ∗ Φ (dCell c 12) ∗ Φ (dCell c 13) ∗ Φ (dCell c 14))

/-- The right to raise semaphore `q` of device `c`. -/
abbrev tok (c : Dev nD) (q : DmaSem sig) : sProp 𝕄 := dutyTok ER (dCell c q) 0 false
/-- The units semaphore `q` of device `c` is waited for. -/
abbrev crd (c : Dev nD) (q : DmaSem sig) : sProp 𝕄 := cred (tallyAt (dCell c q) () (amt (π.half c) q))
/-- That semaphore `g` has not been waited on. -/
abbrev fresh (g : GSem nD τ sig) : sProp 𝕄 := atPos ER g 0 ∅ 0
/-- That its counter is zero. -/
abbrev spent (g : GSem nD τ sig) : sProp 𝕄 := semVal g 0

/-- The rights a device starts with. -/
def tokens (c : Dev nD) : sProp 𝕄 :=
  iprop(dutyTok ER (barCell (π.dst c)) 0 false ∗ dutyTok ER (barCell (π.src c)) 0 true ∗ tok c 1 ∗ tok (π.dst c) 2
    ∗ tok c 3 ∗ tok c 4 ∗ tok c 5 ∗ tok c 6 ∗ tok c 7 ∗ tok c 8
    ∗ tok (π.src c) 9 ∗ tok (π.src c) 10 ∗ tok (π.src c) 11 ∗ tok (π.src c) 12 ∗ tok (π.src c) 13 ∗ tok (π.src c) 14)

/-- The units a relaying device is promised. -/
def hopCreds (c : Dev nD) : sProp 𝕄 :=
  iprop(cred (tallyAt (barCell c) () 2) ∗ crd π c 2 ∗ crd π c 9 ∗ crd π c 10 ∗ crd π c 11 ∗ crd π c 12 ∗ crd π c 13 ∗ crd π c 14)

/-- The four buffers before the kernel: the block, and the result and the landing buffers whatever is in them. -/
def before (c : Dev nD) : sProp 𝕄 := iprop(ownsTc c xM fullShare (vW m c) ∗ anyOf c oM ∗ anyOf c t1M ∗ anyOf c t2M)
/-- The four buffers after it: the result holds the block of the device that sends here. -/
def after (c : Dev nD) : sProp 𝕄 := iprop(ownsTc c xM fullShare (vW m c) ∗ ownsTc c oM fullShare (vW m (π.src c)) ∗ anyOf c t1M ∗ anyOf c t2M)

/-! ## One relay -/

section
variable {α : Type} {k : PUnit → Prog (TpuEff nD τ sig (Elt F) Λ₀ .tc) α}

/-- Waiting for a piece and sending it on to the device before. -/
theorem wp_relay {Q : α → sProp 𝕄} (c n' : Dev nD) (hn : n' = π.src c) (q a b : DmaSem sig) (hq : Live π c q) (ha : Live π c a) (hb : Live π (π.src c) b)
    {sp sp' sp₀ : Space} {s s₀ : Shape} {e e₀ : EltTy} {src₀ : Memref sig .tc sp₀ s₀ e₀}
    (src : Memref sig .tc sp s e) (dst : Memref sig .tc sp' s e)
    {hsc : (dst : Memref sig (Dev.tc n' : Thread nD τ).2.kind sp' s e).view.ref.isScScratch = false}
    {hsrc₀ : src₀.view.WordExact} {hsrc hsrc' : src.view.WordExact} {hdst : dst.view.WordExact}
    {hsem : DmaTarget.Typed sp (.dma b) (.remote (Dev.tc n' : Thread nD τ) dst (.dma a) hsc)}
    (hN : src.view.dmaCredit = amt (π.half c) q) (hN₁ : dst.view.dmaCredit = amt (π.half c) a)
    (hN₂ : dst.view.dmaCredit = amt (π.half (π.src c)) b) (X : s.Idx → Elt F e)
    (hp : dmaPay π m c q ⊢ ownsTc c src fullShare X) (hp₁ : ownsTc c src fullShare X ⊢ dmaPay π m c a)
    (hp₂ : ownsTc (π.src c) dst fullShare X ⊢ dmaPay π m (π.src c) b) (l : List (GSem nD τ sig × ℕ)) (h : Above (.dma q) c (hopDue π c b :: l)) :
    iprop(records π m K ∗ levAts L lv ∗ crd π c q ∗ fresh (dCell c q) ∗ owing c (hopDue π c b :: l) ∗ anyOf (π.src c) dst ∗ tok c a ∗ tok (π.src c) b)
      ⊢ iprop(((spent (dCell c q) ∗ crd π c a ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src₀ src hsrc₀ hsrc') fun _ =>
                .op (.enqueueDma src (.remote (Dev.tc n' : Thread nD τ) dst (.dma a) hsc) (.dma b) hsrc hdst hsem) k) Q) := by
  iintro ⟨#HR, #Hlev, Hc, Hat, HO, Hd, Hta, Htb⟩ Hk
  iapply (wp_got π m K c q hq hN (hopDue π c b :: l) h) $$ [Hc HO Hat]
  · isplitr; · iexact HR
    isplitr; · iexact Hlev
    isplitl [Hc]; · iexact Hc
    isplitl [HO] <;> iassumption
  iintro ⟨HO, Hz, Hp⟩
  ihave Hs := hp $$ Hp
  iapply (wp_put π m K c (π.src c) n' hn a b ha hb src dst hN₁ hN₂ X hp₁ hp₂ l) $$ [Hs Hd HO Hta Htb]
  · isplitr; · iexact HR
    isplitl [Hs]; · iexact Hs
    isplitl [Hd]; · iexact Hd
    isplitl [HO]; · iexact HO
    isplitl [Hta] <;> iassumption
  iintro ⟨Hc, HO⟩
  iapply Hk
  isplitl [Hz]; · iexact Hz
  isplitl [Hc] <;> iassumption

/-- The last waits: nothing is owed any more. -/
theorem wp_last {Q : α → sProp 𝕄} (c : Dev nD) (q : DmaSem sig) (hq : Live π c q) {sp sp' : Space} {s s' : Shape} {e e' : EltTy} {src : Memref sig .tc sp' s' e'}
    {dst : Memref sig .tc sp s e} {hsrc : src.view.WordExact} {hdst : dst.view.WordExact} (hN : dst.view.dmaCredit = amt (π.half c) q) :
    iprop(records π m K ∗ levAts L lv ∗ crd π c q ∗ fresh (dCell c q) ∗ owing c [])
      ⊢ iprop(((spent (dCell c q) ∗ dmaPay π m c q ∗ owing c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HR, #Hlev, Hc, Hat, HO⟩ Hk
  iapply (wp_got π m K c q hq hN [] (above_nil _ _)) $$ [Hc HO Hat]
  · isplitr; · iexact HR
    isplitr; · iexact Hlev
    isplitl [Hc]; · iexact Hc
    isplitl [HO] <;> iassumption
  iintro ⟨HO, Hz, Hp⟩
  iapply Hk
  isplitl [Hz]; · iexact Hz
  isplitl [Hp] <;> iassumption
end

theorem amt_hop (h : Prop) [Decidable h] {q : DmaSem sig} (hq : 3 ≤ q.val) : NS = amt h q := (if_pos hq).symm
theorem amt_far {h : Prop} [Decidable h] (hh : ¬ h) {q : DmaSem sig} (hq : q.val < 3) : ND = amt h q := by
  unfold amt; rw [if_neg (by omega), if_neg hh]
theorem amt_whole {h : Prop} [Decidable h] (hh : h) {q : DmaSem sig} (hq : q.val < 3) : NW = amt h q := by
  unfold amt; rw [if_neg (by omega), if_pos hh]

omit [FloatOps F] in
/-- A piece leaving `c` at a later hop arrives, at the device before, as the piece that device's hop hands over. -/
theorem arrives {sp : Space} {s : Shape} {e : EltTy} (c : Dev nD) (M : Memref sig .tc sp s e) (v : Dev nD → s.Idx → Elt F e) :
    (ownsTc (π.src c) M fullShare (v c) : sProp 𝕄) ⊢ ownsTc (π.src c) M fullShare (v (π.dst (π.src c))) := by
  rw [π.dst_src]
omit [FloatOps F] in
/-- What the direct copy sends to the device ahead is what that device awaits. -/
theorem arrives_far {sp : Space} {s : Shape} {e : EltTy} (c : Dev nD) (M : Memref sig .tc sp s e) (v : Dev nD → s.Idx → Elt F e) :
    (ownsTc (π.dst c) M fullShare (v c) : sProp 𝕄) ⊢ ownsTc (π.dst c) M fullShare (v (π.src (π.dst c))) := by
  rw [π.src_dst]

omit [FloatOps F] in
theorem pay1_hops {c : Dev nD} (h : ¬ π.half c) : (dmaPay π m c 1 : sProp 𝕄) = ownsTc c xD fullShare (vD m c) := if_neg h
omit [FloatOps F] in
theorem pay2_hops {c : Dev nD} (h : ¬ π.half c) : (dmaPay π m c 2 : sProp 𝕄) = ownsTc c oD fullShare (vD m (π.src c)) := if_neg h
omit [FloatOps F] in
theorem pay1_half {c : Dev nD} (h : π.half c) : (dmaPay π m c 1 : sProp 𝕄) = ownsTc c xM fullShare (vW m c) := if_pos h
omit [FloatOps F] in
theorem pay2_half {c : Dev nD} (h : π.half c) : (dmaPay π m c 2 : sProp 𝕄) = ownsTc c oM fullShare (vW m (π.src c)) := if_pos h

end Cert.KernelIdeal.Hops

end
-- ==== Proof.KernelIdeal.Relay.lean ====
/-
# The branch of a relaying device

All the operations of a device that does not exchange blocks, in order, from what the launch hands it to its result.
-/
module

public import proofs.«01_k».proof.Proof.KernelIdeal.Hops

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (K : Dev nD × Fin 15 → ℕ)

/-- The operations: the kernel's five parts and its last three waits. -/
def hopsProg (c : Dev nD) (v2 : BitVec 32) (w : Elt F .i32) (hw1 : k0_chk1 c w) (v7 : BitVec 32) (h2 : k0_cond2 c w = 1#1) :
    Prog (TpuEff nD τ sig (Elt F) Λ₀ .tc) PUnit := do
  k0_part1 xM (Memref.isWhole_whole _) (Memref.whole cc0_stg0_0) (Memref.isWhole_whole _) oM (Memref.isWhole_whole _) t1M (Memref.isWhole_whole _) t2M (Memref.isWhole_whole _)
    cc0_scratch2 cc0_scratch3 cc0_scratch4 cc0_scratch5 c v2 w hw1 v7 (SemArray.scalar (sig.barrier 0 rfl)) h2
  k0_part2 xM (Memref.isWhole_whole _) (Memref.whole cc0_stg0_0) (Memref.isWhole_whole _) oM (Memref.isWhole_whole _) t1M (Memref.isWhole_whole _) t2M (Memref.isWhole_whole _)
    cc0_scratch2 cc0_scratch3 cc0_scratch4 cc0_scratch5 c w hw1 h2
  k0_part3 xM (Memref.isWhole_whole _) (Memref.whole cc0_stg0_0) (Memref.isWhole_whole _) oM (Memref.isWhole_whole _) t1M (Memref.isWhole_whole _) t2M (Memref.isWhole_whole _)
    cc0_scratch2 cc0_scratch3 cc0_scratch4 cc0_scratch5 c w hw1 h2
  k0_part4 xM (Memref.isWhole_whole _) (Memref.whole cc0_stg0_0) (Memref.isWhole_whole _) oM (Memref.isWhole_whole _) t1M (Memref.isWhole_whole _) t2M (Memref.isWhole_whole _)
    cc0_scratch2 cc0_scratch3 cc0_scratch4 cc0_scratch5 c w hw1 h2
  k0_part5 xM (Memref.isWhole_whole _) (Memref.whole cc0_stg0_0) (Memref.isWhole_whole _) oM (Memref.isWhole_whole _) t1M (Memref.isWhole_whole _) t2M (Memref.isWhole_whole _)
    cc0_scratch2 cc0_scratch3 cc0_scratch4 cc0_scratch5
  Prog.lift (.waitDma2 ((cc0_scratch4.slice (Rect.unit (s := S3x2) ![2, 1] S1x1.size inb_S3x2_S1x1_2_1)).squeeze S_ squeezes_S1x1_S_).sem oB t2B
    (View.wordExact_bits rfl) (View.wordExact_bits rfl))
  Prog.lift (.waitDma2 cc0_scratch2.sem oD xD (View.wordExact_bits rfl) (View.wordExact_bits rfl))
  Prog.lift (.waitDma2 cc0_scratch3.sem xD oD (View.wordExact_bits rfl) (View.wordExact_bits rfl))
  pure ⟨⟩

set_option maxHeartbeats 1600000 in
/-- A relaying device ends with its block unchanged, the result holding the block of the device that sends here, every
    debt paid and every semaphore at zero. -/
theorem hops (c : Dev nD) (w : Elt F .i32) (hw : w = wordOf (π.dst c)) (hh : ¬ π.half c) (v2 v7 : BitVec 32) (hw1 : k0_chk1 c w) (h2 : k0_cond2 c w = 1#1)
    {Q : PUnit → sProp 𝕄} :
    iprop(records π m K ∗ levAts L lv ∗ owing c (due9 π c) ∗ tokens π c ∗ each fresh c ∗ hopCreds π c ∗ before m c)
      ⊢ iprop(((owing c [] ∗ each spent c ∗ after π m c) -∗ Q ⟨⟩)
          -∗ wp frame (wpE (defs₀ (F := F)) 𝒱₀ (c : Thread nD τ) none) Set.univ (hopsProg c v2 w hw1 v7 h2) Q) := by
  have hs : ¬ π.half (π.src c) := fun h => hh ((π.half_src c).mp h)
  have hd : ¬ π.half (π.dst c) := fun h => hh ((π.half_dst c).mp h)
  have live : ∀ {d : Dev nD} {q : DmaSem sig}, ¬ π.half d → q ≠ 0 → Live π d q := fun h hq => ⟨hq, .inr h⟩
  unfold hopsProg
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, one_int, two_units,
    snd00, snd01, snd10, snd11, snd20, snd21, rcv00, rcv01, rcv10, rcv11, rcv20, rcv21, far_snd, far_rcv]
  unfold tokens each hopCreds before
  iintro ⟨#HR, #Hlev, HO, ⟨TB, TC, T1, T2, T3, T4, T5, T6, T7, T8, T9, T10, T11, T12, T13, T14⟩,
    ⟨A0, A1, A2, A3, A4, A5, A6, A7, A8, A9, A10, A11, A12, A13, A14⟩, ⟨C0, C2, C9, C10, C11, C12, C13, C14⟩, Hx, Ho, Ht1, Ht2⟩ Hk
  ihave Hx := (cut c xM (vW m c)) $$ Hx
  icases Hx with ⟨HxD, HxA, HxB⟩
  ihave Ho := (cut_any c oM) $$ Ho
  icases Ho with ⟨HoD, HoA, HoB⟩
  ihave Ht1 := (halve_any c t1M) $$ Ht1
  icases Ht1 with ⟨Ht1A, Ht1B⟩
  ihave Ht2 := (halve_any c t2M) $$ Ht2
  icases Ht2 with ⟨Ht2A, Ht2B⟩
  -- the device ahead is given the buffers this device is relayed to
  iapply (wp_sig π m K c (π.dst c) _ (dev3_eq π hw _) false (by rw [duties_bar, if_neg hd]; exact Finset.mem_univ _)
    ((barCell (π.src c), 1) :: due7 π c)) $$ [HO TB Ht1A Ht1B Ht2A Ht2B HoA HoB]
  · isplitr; · iexact HR
    isplitl [HO]; · iexact HO
    isplitl [TB]; · iexact TB
    unfold barPay barFwd
    rw [if_neg hd, if_neg Bool.false_ne_true, π.src_dst]
    isplitl [Ht1A]; · iexact Ht1A
    isplitl [Ht1B]; · iexact Ht1B
    isplitl [Ht2A]; · iexact Ht2A
    isplitl [Ht2B]; · iexact Ht2B
    isplitl [HoA] <;> iassumption
  iintro HO
  -- and the device behind the piece of the result it copies to directly
  iapply (wp_sig π m K c (π.src c) _ (dev4_eq π hw hh _) true (by rw [duties_bar, if_neg hs]; exact Finset.mem_univ _) (due7 π c)) $$ [HO TC HoD]
  · isplitr; · iexact HR
    isplitl [HO]; · iexact HO
    isplitl [TC]; · iexact TC
    unfold barPay barBack
    rw [if_neg hs, if_pos rfl, π.dst_src]
    iexact HoD
  iintro HO
  iapply (wp_bar π m K c 2 (if_neg hh).symm (due7 π c) (above7 π (Nat.le_refl 1)) _ (rest_bar_hops π m c hh)) $$ [C0 HO A0]
  · isplitr; · iexact HR
    isplitr; · iexact Hlev
    isplitl [C0]; · iexact C0
    isplitl [HO] <;> iassumption
  unfold barFwd barBack
  iintro ⟨HO, Z0, ⟨Hn1A, Hn1B, Hn2A, Hn2B, HnA, HnB⟩, HnD⟩
  -- the direct copy, and the first hop of the two small pieces
  iapply (wp_put π m K c (π.dst c) _ (dev5_eq π hw _) 1 2 (live hh (by decide)) (live hd (by decide)) xD oD (amt_far hh (by decide)) (amt_far hd (by decide))
    (vD m c) (Entails.of_eq (pay1_hops π m hh).symm) ((arrives_far π c oD (vD m)).trans (Entails.of_eq (pay2_hops π m hd).symm))
    (hopDue π c 9 :: hopDue π c 10 :: due4 π c)) $$ [HxD HnD HO T1 T2]
  · isplitr; · iexact HR
    isplitl [HxD]; · iexact HxD
    isplitl [HnD]; · iexact HnD
    isplitl [HO]; · iexact HO
    isplitl [T1] <;> iassumption
  iintro ⟨C1, HO⟩
  iapply (wp_put π m K c (π.src c) _ (dev6_eq π hw hh _) 3 9 (live hh (by decide)) (live hs (by decide)) xA t1A (amt_hop _ (by decide)) (amt_hop _ (by decide))
    (vA m c) .rfl (arrives π c t1A (vA m)) (hopDue π c 10 :: due4 π c)) $$ [HxA Hn1A HO T3 T9]
  · isplitr; · iexact HR
    isplitl [HxA]; · iexact HxA
    isplitl [Hn1A]; · iexact Hn1A
    isplitl [HO]; · iexact HO
    isplitl [T3] <;> iassumption
  iintro ⟨C3, HO⟩
  iapply (wp_put π m K c (π.src c) _ (dev7_eq π hw hh _) 4 10 (live hh (by decide)) (live hs (by decide)) xB t1B (amt_hop _ (by decide)) (amt_hop _ (by decide))
    (vB m c) .rfl (arrives π c t1B (vB m)) (due4 π c)) $$ [HxB Hn1B HO T4 T10]
  · isplitr; · iexact HR
    isplitl [HxB]; · iexact HxB
    isplitl [Hn1B]; · iexact Hn1B
    isplitl [HO]; · iexact HO
    isplitl [T4] <;> iassumption
  iintro ⟨C4, HO⟩
  -- the second hop
  iapply (wp_relay π m K c _ (dev8_eq π hw hh _) 9 5 11 (live hh (by decide)) (live hh (by decide)) (live hs (by decide)) t1A t2A
    (amt_hop _ (by decide)) (amt_hop _ (by decide)) (amt_hop _ (by decide)) ((fun d => vA m (π.dst d)) c) .rfl .rfl (arrives π c t2A (fun d => vA m (π.dst d)))
    [hopDue π c 12, hopDue π c 13, hopDue π c 14]
    (above_cons (lv_hop (by decide) (by decide)) (above_cons (lv_hop (by decide) (by decide)) (above_cons (lv_hop (by decide) (by decide)) (above_cons (lv_hop (by decide) (by decide)) (above_nil _ _)))))) $$ [C9 A9 HO Hn2A T5 T11]
  · isplitr; · iexact HR
    isplitr; · iexact Hlev
    isplitl [C9]; · iexact C9
    isplitl [A9]; · iexact A9
    isplitl [HO]; · iexact HO
    isplitl [Hn2A]; · iexact Hn2A
    isplitl [T5] <;> iassumption
  iintro ⟨Z9, C5, HO⟩
  iapply (wp_relay π m K c _ (dev9_eq π hw hh _) 10 6 12 (live hh (by decide)) (live hh (by decide)) (live hs (by decide)) t1B t2B
    (amt_hop _ (by decide)) (amt_hop _ (by decide)) (amt_hop _ (by decide)) ((fun d => vB m (π.dst d)) c) .rfl .rfl (arrives π c t2B (fun d => vB m (π.dst d)))
    [hopDue π c 13, hopDue π c 14]
    (above_cons (lv_hop (by decide) (by decide)) (above_cons (lv_hop (by decide) (by decide)) (above_cons (lv_hop (by decide) (by decide)) (above_nil _ _))))) $$ [C10 A10 HO Hn2B T6 T12]
  · isplitr; · iexact HR
    isplitr; · iexact Hlev
    isplitl [C10]; · iexact C10
    isplitl [A10]; · iexact A10
    isplitl [HO]; · iexact HO
    isplitl [Hn2B]; · iexact Hn2B
    isplitl [T6] <;> iassumption
  iintro ⟨Z10, C6, HO⟩
  -- the third hop
  iapply (wp_relay π m K c _ (dev10_eq π hw hh _) 11 7 13 (live hh (by decide)) (live hh (by decide)) (live hs (by decide)) t2A oA
    (amt_hop _ (by decide)) (amt_hop _ (by decide)) (amt_hop _ (by decide)) ((fun d => vA m (π.dst (π.dst d))) c) .rfl .rfl (arrives π c oA (fun d => vA m (π.dst (π.dst d))))
    [hopDue π c 14]
    (above_cons (lv_hop (by decide) (by decide)) (above_cons (lv_hop (by decide) (by decide)) (above_nil _ _)))) $$ [C11 A11 HO HnA T7 T13]
  · isplitr; · iexact HR
    isplitr; · iexact Hlev
    isplitl [C11]; · iexact C11
    isplitl [A11]; · iexact A11
    isplitl [HO]; · iexact HO
    isplitl [HnA]; · iexact HnA
    isplitl [T7] <;> iassumption
  iintro ⟨Z11, C7, HO⟩
  iapply (wp_relay π m K c _ (dev11_eq π hw hh _) 12 8 14 (live hh (by decide)) (live hh (by decide)) (live hs (by decide)) t2B oB
    (amt_hop _ (by decide)) (amt_hop _ (by decide)) (amt_hop _ (by decide)) ((fun d => vB m (π.dst (π.dst d))) c) .rfl .rfl (arrives π c oB (fun d => vB m (π.dst (π.dst d))))
    []
    (above_cons (lv_hop (by decide) (by decide)) (above_nil _ _))) $$ [C12 A12 HO HnB T8 T14]
  · isplitr; · iexact HR
    isplitr; · iexact Hlev
    isplitl [C12]; · iexact C12
    isplitl [A12]; · iexact A12
    isplitl [HO]; · iexact HO
    isplitl [HnB]; · iexact HnB
    isplitl [T8] <;> iassumption
  iintro ⟨Z12, C8, HO⟩
  -- the last pieces arrive, and every copy from here has left
  iapply (wp_last π m K c 13 (src := t2A) (dst := oA) (live hh (by decide)) (amt_hop _ (by decide))) $$ [C13 A13 HO]
  · isplitr; · iexact HR
    isplitr; · iexact Hlev
    isplitl [C13]; · iexact C13
    isplitl [A13] <;> iassumption
  iintro ⟨Z13, P13, HO⟩
  iapply (wp_last π m K c 14 (src := t2B) (dst := oB) (live hh (by decide)) (amt_hop _ (by decide))) $$ [C14 A14 HO]
  · isplitr; · iexact HR
    isplitr; · iexact Hlev
    isplitl [C14]; · iexact C14
    isplitl [A14] <;> iassumption
  iintro ⟨Z14, P14, HO⟩
  iapply (wp_last π m K c 3 (src := t1A) (dst := xA) (live hh (by decide)) (amt_hop _ (by decide))) $$ [C3 A3 HO]
  · isplitr; · iexact HR
    isplitr; · iexact Hlev
    isplitl [C3]; · iexact C3
    isplitl [A3] <;> iassumption
  iintro ⟨Z3, P3, HO⟩
  iapply (wp_last π m K c 4 (src := t1B) (dst := xB) (live hh (by decide)) (amt_hop _ (by decide))) $$ [C4 A4 HO]
  · isplitr; · iexact HR
    isplitr; · iexact Hlev
    isplitl [C4]; · iexact C4
    isplitl [A4] <;> iassumption
  iintro ⟨Z4, P4, HO⟩
  iapply (wp_last π m K c 5 (src := t2A) (dst := t1A) (live hh (by decide)) (amt_hop _ (by decide))) $$ [C5 A5 HO]
  · isplitr; · iexact HR
    isplitr; · iexact Hlev
    isplitl [C5]; · iexact C5
    isplitl [A5] <;> iassumption
  iintro ⟨Z5, P5, HO⟩
  iapply (wp_last π m K c 6 (src := t2B) (dst := t1B) (live hh (by decide)) (amt_hop _ (by decide))) $$ [C6 A6 HO]
  · isplitr; · iexact HR
    isplitr; · iexact Hlev
    isplitl [C6]; · iexact C6
    isplitl [A6] <;> iassumption
  iintro ⟨Z6, P6, HO⟩
  iapply (wp_last π m K c 7 (src := oA) (dst := t2A) (live hh (by decide)) (amt_hop _ (by decide))) $$ [C7 A7 HO]
  · isplitr; · iexact HR
    isplitr; · iexact Hlev
    isplitl [C7]; · iexact C7
    isplitl [A7] <;> iassumption
  iintro ⟨Z7, P7, HO⟩
  iapply (wp_last π m K c 8 (src := oB) (dst := t2B) (live hh (by decide)) (amt_hop _ (by decide))) $$ [C8 A8 HO]
  · isplitr; · iexact HR
    isplitr; · iexact Hlev
    isplitl [C8]; · iexact C8
    isplitl [A8] <;> iassumption
  iintro ⟨Z8, P8, HO⟩
  iapply (wp_last π m K c 1 (src := oD) (dst := xD) (live hh (by decide)) (amt_far hh (by decide))) $$ [C1 A1 HO]
  · isplitr; · iexact HR
    isplitr; · iexact Hlev
    isplitl [C1]; · iexact C1
    isplitl [A1] <;> iassumption
  iintro ⟨Z1, P1, HO⟩
  iapply (wp_last π m K c 2 (src := xD) (dst := oD) (live hh (by decide)) (amt_far hh (by decide))) $$ [C2 A2 HO]
  · isplitr; · iexact HR
    isplitr; · iexact Hlev
    isplitl [C2]; · iexact C2
    isplitl [A2] <;> iassumption
  iintro ⟨Z2, P2, HO⟩
  rw [wp_ret]; imodintro
  iapply Hk
  unfold after
  isplitl [HO]; · iexact HO
  isplitl [Z0 Z1 Z2 Z3 Z4 Z5 Z6 Z7 Z8 Z9 Z10 Z11 Z12 Z13 Z14]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    iexact Z14
  ihave P1 := (Entails.of_eq (pay1_hops π m hh)) $$ P1
  ihave P2 := (Entails.of_eq (pay2_hops π m hh)) $$ P2
  ihave P13 := (show dmaPay π m c 13 ⊢ ownsTc c oA fullShare (vA m (π.src c)) by rw [← π.back3 c hh]; exact .rfl) $$ P13
  ihave P14 := (show dmaPay π m c 14 ⊢ ownsTc c oB fullShare (vB m (π.src c)) by rw [← π.back3 c hh]; exact .rfl) $$ P14
  ihave P3 := (show dmaPay π m c 3 ⊢ ownsTc c xA fullShare (vA m c) from .rfl) $$ P3
  ihave P4 := (show dmaPay π m c 4 ⊢ ownsTc c xB fullShare (vB m c) from .rfl) $$ P4
  ihave P5 := (show dmaPay π m c 5 ⊢ anyOf c t1A from anyOf_intro c t1A _) $$ P5
  ihave P6 := (show dmaPay π m c 6 ⊢ anyOf c t1B from anyOf_intro c t1B _) $$ P6
  ihave P7 := (show dmaPay π m c 7 ⊢ anyOf c t2A from anyOf_intro c t2A _) $$ P7
  ihave P8 := (show dmaPay π m c 8 ⊢ anyOf c t2B from anyOf_intro c t2B _) $$ P8
  isplitl [P1 P3 P4]
  · iapply (uncut c xM (vW m c))
    isplitl [P1]; · iexact P1
    isplitl [P3]; · iexact P3
    iexact P4
  isplitl [P2 P13 P14]
  · iapply (uncut c oM (vW m (π.src c)))
    isplitl [P2]; · iexact P2
    isplitl [P13]; · iexact P13
    iexact P14
  isplitl [P5 P6]
  · iapply (unhalve_any c t1M)
    isplitl [P5]; · iexact P5
    iexact P6
  · iapply (unhalve_any c t2M)
    isplitl [P7]; · iexact P7
    iexact P8

end Cert.KernelIdeal.Hops

end
-- ==== Proof.KernelIdeal.Half.lean ====
/-
# The branch of a device that exchanges blocks

A device whose block goes to the opposite device copies the whole of it there in one copy, after the entry barrier. From
what the launch hands it to its result.
-/
module

public import proofs.«01_k».proof.Proof.KernelIdeal.Hops

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (K : Dev nD × Fin 15 → ℕ)

/-- The units such a device is promised. -/
def halfCreds (c : Dev nD) : sProp 𝕄 := iprop(cred (tallyAt (barCell c) () 1) ∗ crd π c 2)

/-- The operations. -/
def halfProg (c : Dev nD) (w : Elt F .i32) (hw1 : k0_chk1 c w) (h1 : k0_cond1 c w = 1#1) :
    Prog (TpuEff nD τ sig (Elt F) Λ₀ .tc) PUnit := do
  semSignalWord (⟨k0_dev1 w, k0_dev1_lt c w hw1 h1⟩ : Dev nD) (SemArray.scalar (sig.barrier 0 rfl) : Sems sig S_).sem 1#32
  semWaitWord (SemArray.scalar (sig.barrier 0 rfl) : Sems sig S_).sem 1#32
  Prog.lift (.enqueueDma xM (.remote (Dev.tc (⟨k0_dev2 w, k0_dev2_lt c w hw1 h1⟩ : Dev nD)) oM (.dma cc0_scratch2.sem)) (.dma cc0_scratch3.sem)
    (Memref.isWhole_whole main_arg0).wordExact (Memref.isWhole_whole main_v1).wordExact ⟨⟨rfl, Or.inl rfl⟩, trivial⟩)
  Prog.lift (.waitDma2 cc0_scratch2.sem oM xM (Memref.isWhole_whole main_v1).wordExact (Memref.isWhole_whole main_arg0).wordExact)
  Prog.lift (.waitDma2 cc0_scratch3.sem xM oM (Memref.isWhole_whole main_arg0).wordExact (Memref.isWhole_whole main_v1).wordExact)
  pure ⟨⟩

/-- Such a device ends with its block unchanged, the result holding the block of the device that sends here, every debt
    paid and every semaphore at zero. -/
theorem halves (c : Dev nD) (w : Elt F .i32) (hw : w = wordOf (π.dst c)) (hh : π.half c) (hw1 : k0_chk1 c w) (h1 : k0_cond1 c w = 1#1) {Q : PUnit → sProp 𝕄} :
    iprop(records π m K ∗ levAts L lv ∗ owing c (dueHalf π c) ∗ tokens π c ∗ each fresh c ∗ halfCreds π c ∗ before m c)
      ⊢ iprop(((owing c [] ∗ each spent c ∗ after π m c) -∗ Q ⟨⟩)
          -∗ wp frame (wpE (defs₀ (F := F)) 𝒱₀ (c : Thread nD τ) none) Set.univ (halfProg c w hw1 h1) Q) := by
  have hd : π.half (π.dst c) := (π.half_dst c).mpr hh
  have hback : π.src c = π.dst c := π.opp_back c hh
  unfold halfProg
  simp only [semSignalWord, semWaitWord, Prog.lift, Prog.bind_op, Prog.bind_ret, Prog.pure_eq_ret, far_snd, far_rcv]
  rw [one_unit]
  unfold tokens each halfCreds before
  iintro ⟨#HR, #Hlev, HO, ⟨TB, -, T1, T2, -⟩,
    ⟨A0, A1, A2, A3, A4, A5, A6, A7, A8, A9, A10, A11, A12, A13, A14⟩, ⟨C0, C2⟩, Hx, Ho, Ht1, Ht2⟩ Hk
  iapply (wp_sig π m K c (π.dst c) _ (dev1_eq π hw _) false (by rw [duties_bar, if_pos hd]; exact Finset.mem_singleton_self _) [farDue π c]) $$ [HO TB Ho]
  · isplitr; · iexact HR
    isplitl [HO]; · iexact HO
    isplitl [TB]; · iexact TB
    unfold barPay barHalf
    rw [if_pos hd, π.src_dst]
    iexact Ho
  iintro HO
  iapply (wp_bar π m K c 1 (if_pos hh).symm [farDue π c] (aboveFar π (Nat.le_refl 1)) _ (rest_bar_half π m c hh)) $$ [C0 HO A0]
  · isplitr; · iexact HR
    isplitr; · iexact Hlev
    isplitl [C0]; · iexact C0
    isplitl [HO]; · iexact HO
    iexact A0
  unfold barHalf
  rw [hback]
  iintro ⟨HO, Z0, Hn⟩
  iapply (wp_put π m K c (π.dst c) _ (dev2_eq π hw _) 1 2 ⟨by decide, .inl (by decide)⟩ ⟨by decide, .inl (by decide)⟩ xM oM
    (amt_whole hh (by decide)) (amt_whole hd (by decide))
    (vW m c) (Entails.of_eq (pay1_half π m hh).symm) ((arrives_far π c oM (vW m)).trans (Entails.of_eq (pay2_half π m hd).symm)) []) $$ [Hx Hn HO T1 T2]
  · isplitr; · iexact HR
    isplitl [Hx]; · iexact Hx
    isplitl [Hn]; · iexact Hn
    isplitl [HO]; · iexact HO
    isplitl [T1]; · iexact T1
    iexact T2
  iintro ⟨C1, HO⟩
  iapply (wp_last π m K c 1 (src := oM) (dst := xM) ⟨by decide, .inl (by decide)⟩ (amt_whole hh (by decide))) $$ [C1 A1 HO]
  · isplitr; · iexact HR
    isplitr; · iexact Hlev
    isplitl [C1]; · iexact C1
    isplitl [A1]; · iexact A1
    iexact HO
  iintro ⟨Z1, P1, HO⟩
  iapply (wp_last π m K c 2 (src := xM) (dst := oM) ⟨by decide, .inl (by decide)⟩ (amt_whole hh (by decide))) $$ [C2 A2 HO]
  · isplitr; · iexact HR
    isplitr; · iexact Hlev
    isplitl [C2]; · iexact C2
    isplitl [A2]; · iexact A2
    iexact HO
  iintro ⟨Z2, P2, HO⟩
  ihave P1 := (Entails.of_eq (pay1_half π m hh)) $$ P1
  ihave P2 := (Entails.of_eq (pay2_half π m hh)) $$ P2
  -- the hops' semaphores were never raised
  imod (close_idle π m K c hh (q := 3) (by decide)) $$ [A3] with Z3
  · isplitr; · iexact HR
    iexact A3
  imod (close_idle π m K c hh (q := 4) (by decide)) $$ [A4] with Z4
  · isplitr; · iexact HR
    iexact A4
  imod (close_idle π m K c hh (q := 5) (by decide)) $$ [A5] with Z5
  · isplitr; · iexact HR
    iexact A5
  imod (close_idle π m K c hh (q := 6) (by decide)) $$ [A6] with Z6
  · isplitr; · iexact HR
    iexact A6
  imod (close_idle π m K c hh (q := 7) (by decide)) $$ [A7] with Z7
  · isplitr; · iexact HR
    iexact A7
  imod (close_idle π m K c hh (q := 8) (by decide)) $$ [A8] with Z8
  · isplitr; · iexact HR
    iexact A8
  imod (close_idle π m K c hh (q := 9) (by decide)) $$ [A9] with Z9
  · isplitr; · iexact HR
    iexact A9
  imod (close_idle π m K c hh (q := 10) (by decide)) $$ [A10] with Z10
  · isplitr; · iexact HR
    iexact A10
  imod (close_idle π m K c hh (q := 11) (by decide)) $$ [A11] with Z11
  · isplitr; · iexact HR
    iexact A11
  imod (close_idle π m K c hh (q := 12) (by decide)) $$ [A12] with Z12
  · isplitr; · iexact HR
    iexact A12
  imod (close_idle π m K c hh (q := 13) (by decide)) $$ [A13] with Z13
  · isplitr; · iexact HR
    iexact A13
  imod (close_idle π m K c hh (q := 14) (by decide)) $$ [A14] with Z14
  · isplitr; · iexact HR
    iexact A14
  rw [wp_ret]; imodintro
  iapply Hk
  unfold after
  isplitl [HO]; · iexact HO
  isplitl [Z0 Z1 Z2 Z3 Z4 Z5 Z6 Z7 Z8 Z9 Z10 Z11 Z12 Z13 Z14]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    iexact Z14
  rw [hback]
  isplitl [P1]; · iexact P1
  isplitl [P2]; · iexact P2
  isplitl [Ht1]; · iexact Ht1
  iexact Ht2

end Cert.KernelIdeal.Hops

end
-- ==== Proof.KernelIdeal.Body.lean ====
/-
# The kernel's body

The body reads the device's entry of the permutation from scalar memory, checks it, and runs the branch it selects. What
a device holds before and after it, and the pipeline's obligation for the one grid point.
-/
module

public import proofs.«01_k».proof.Proof.KernelIdeal.Relay
public import proofs.«01_k».proof.Proof.KernelIdeal.Half
public import proofs.«01_k».proof.Proof.Gen.KernelIdeal.Points

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (ρ : Dev nD → PrngReg)

def s₀ : MemSt nD τ sig (Elt F) := ⟨m, fun _ => 0, ρ⟩

/-! ## The entry a device reads -/

/-- Entry `c` of a table of four words. -/
def entry (c : Dev nD) : S4.Idx := fun a => ⟨0 + c.val, by have : c.val < 4 := c.isLt; fin_cases a; show 0 + c.val < 4; omega⟩

/-- The launch memory names the permutation `π`: entry `c` of device `c`'s table is the device its block goes to. -/
def Follows : Prop := ∀ c : Dev nD, (m ((c : Thread nD τ).loc main_arg1) : IVec S4 32) (entry c) = wordOf (π.dst c)

/-- The table as the pipeline stages it. -/
def tab (c : Dev nD) : (cc0_stg0_0 : Ref sig .tc).ty.Contents (Elt F) :=
  (win0_0.blk (0 : Fin 1)).view.read (Elt F) (m ((c : Thread nD τ).loc main_arg1))

abbrev tabM : Memref sig .tc .smem S4 .i32 := Memref.whole cc0_stg0_0
abbrev rW (c : Dev nD) : Rect S4 := Rect.unit (s := S4) (k0_off1 c) S1.size (k0_off1_inb c)
/-- The word the body reads of a staged table. -/
abbrev word (c : Dev nD) (t : (cc0_stg0_0 : Ref sig .tc).ty.Contents (Elt F)) : BitVec 32 :=
  (tabM.access (rW c) : View sig .tc _ _ _).read (Elt F) t (Shape.Idx.first (s := S1) (numel1_S1.symm ▸ Nat.one_pos))

omit [FloatOps F] in
/-- It is the device's own entry of the table. -/
theorem word_tab (c : Dev nD) : word c (tab m c) = (m ((c : Thread nD τ).loc main_arg1) : IVec S4 32) (entry c) := by
  show m ((c : Thread nD τ).loc main_arg1) _ = _
  refine congrArg _ (funext fun a => Fin.ext ?_)
  fin_cases a; fin_cases c <;> rfl

/-! ## What a device holds -/

/-- The units a device is promised. -/
def creds (c : Dev nD) : sProp 𝕄 := if π.half c then halfCreds π c else hopCreds π c

/-- What the launch hands a device beside its buffers. -/
def start (c : Dev nD) : sProp 𝕄 := iprop((∃ K, records π m K ∗ tokens π c ∗ each fresh c) ∗ creds π c ∗ levAts L lv)
def Φ₀ (c : Dev nD) : sProp 𝕄 := iprop(start π m c ∗ before m c)
/-- What it holds after the body. -/
def Φ₁ (c : Dev nD) : sProp 𝕄 := iprop(each spent c ∗ after π m c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tab m c
  Φ t := match t with
    | ⟨0, _⟩ => Φ₀ π m c
    | ⟨_ + 1, _⟩ => Φ₁ π m c
  q _ := fullShare
  owed t := match t with
    | ⟨0, _⟩ => dues (due π c)
    | ⟨_ + 1, _⟩ => 0

omit [FloatOps F] in
theorem bigSep_W (Φ : Fin cfg0.W → sProp 𝕄) : bigSep Finset.univ Φ = Φ (0 : Fin 1) := bigSep_W0 Φ
theorem fetch_0 (t : Fin cfg0.N) : (cfg0.win (0 : Fin 1)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- What follows the check: the two conditional blocks, of which the entry selects one. -/
def branchProg (c : Dev nD) (v2 : BitVec 32) (w : Elt F .i32) (hw1 : k0_chk1 c w) (v7 : BitVec 32) : Prog (TpuEff nD τ sig (Elt F) Λ₀ .tc) PUnit := do
  if h1 : k0_cond1 c w = 1#1 then halfProg c w hw1 h1 else pure ⟨⟩
  if h2 : k0_cond2 c w = 1#1 then hopsProg c v2 w hw1 v7 h2 else pure ⟨⟩
  pure ⟨⟩

/-- The body is the read, the check and the blocks. -/
theorem body_eq : cc0_body (F := F) xM (Memref.isWhole_whole _) tabM (Memref.isWhole_whole _) oM (Memref.isWhole_whole _) t1M (Memref.isWhole_whole _) t2M (Memref.isWhole_whole _)
      cc0_scratch2 cc0_scratch3 cc0_scratch4 cc0_scratch5
    = (do
        let c : Dev nD ← Prog.lift .deviceId
        let w : Elt F .i32 ← smemLoad tabM (rW c) numel1_S1 rfl
        have hw1 : k0_chk1 c w := (← Prog.lift (TpuEff.assume (k0_chk1 c w) (k0_chk1.dec c w))).down
        branchProg c (Scalar.remsi (Scalar.divsi (Dev.word c) 1#32) 4#32) w hw1
          (Scalar.remsi (Scalar.addi (Scalar.subi w (Scalar.remsi (Scalar.divsi (Dev.word c) 1#32) 4#32)) 4#32) 4#32)) := rfl

/-- Either branch, from what the launch hands the device to its result. -/
theorem branch (K : Dev nD × Fin 15 → ℕ) (c : Dev nD) (w : Elt F .i32) (hw : w = wordOf (π.dst c)) (v2 v7 : BitVec 32) (hw1 : k0_chk1 c w) {Q : PUnit → sProp 𝕄} :
    iprop(records π m K ∗ levAts L lv ∗ owing c (due π c) ∗ tokens π c ∗ each fresh c ∗ creds π c ∗ before m c)
      ⊢ iprop(((owing c [] ∗ each spent c ∗ after π m c) -∗ Q ⟨⟩)
          -∗ wp frame (wpE (defs₀ (F := F)) 𝒱₀ (c : Thread nD τ) none) Set.univ
            (branchProg c v2 w hw1 v7) Q) := by
  unfold branchProg
  by_cases hh : π.half c
  · rw [dif_pos ((cond1_iff π hw).mpr hh), dif_neg (fun h => (cond2_iff π hw).mp h hh)]
    unfold due creds; rw [if_pos hh, if_pos hh]
    simp only [Prog.pure_eq_ret, Prog.bind_ret]
    rw [wp_bind]
    iintro H Hk
    iapply (halves π m K c w hw hh hw1 _) $$ H
    iintro H
    rw [wp_ret]; imodintro
    iapply Hk; iexact H
  · rw [dif_neg (fun h => hh ((cond1_iff π hw).mp h)), dif_pos ((cond2_iff π hw).mpr hh)]
    unfold due creds; rw [if_neg hh, if_neg hh]
    simp only [Prog.pure_eq_ret, Prog.bind_ret]
    rw [wp_bind]
    iintro H Hk
    iapply (hops π m K c w hw hh v2 v7 hw1 _) $$ H
    iintro H
    rw [wp_ret]; imodintro
    iapply Hk; iexact H

def bodyPre (c : Dev nD) : sProp 𝕄 :=
  iprop(Φ₀ π m c ∗ (dats π m ρ 0 c).owesAt () t₀.castSucc ∗ ∃ d, stg c cc0_stg0_0 ((dats π m ρ 0 c).before (0 : Fin 1) t₀ d))
def bodyPost (c : Dev nD) : sProp 𝕄 :=
  iprop(Φ₁ π m c ∗ (dats π m ρ 0 c).owesAt () t₀.succ ∗ stg c cc0_stg0_0 (tab m c))

set_option maxHeartbeats 4000000 in
/-- The body, when the launch memory names `π`. -/
theorem sound_body (hf : Follows π m) (c : Dev nD) (Kt : PUnit → sProp 𝕄) :
    iprop(bodyPre π m ρ c ∗ (bodyPost π m ρ c -∗ Kt ⟨⟩))
      ⊢ wp frame (wpE (defs₀ (F := F)) 𝒱₀ c none) Set.univ
          (cc0_body xM (Memref.isWhole_whole _) tabM (Memref.isWhole_whole _) oM (Memref.isWhole_whole _) t1M (Memref.isWhole_whole _) t2M (Memref.isWhole_whole _)
            cc0_scratch2 cc0_scratch3 cc0_scratch4 cc0_scratch5) Kt := by
  have hw : word c (tab m c) = wordOf (π.dst c) := (word_tab m c).trans (hf c)
  rw [body_eq]
  simp only [smemLoad, smemLoadElt, Prog.lift, Prog.bind_op, Prog.bind_ret, Prog.pure_eq_ret, Prog.bind_assoc, wp_deviceId]
  unfold bodyPre Φ₀ start
  iintro ⟨⟨⟨⟨⟨%K, #HR, Ht, Hf⟩, Hc, #Hlev⟩, Hb⟩, Ho, ⟨%d0, %g0, %hg0, Hg⟩⟩, Hk⟩
  have ht : g0 = tab m c := by rw [hg0]; unfold Dat.before; rw [if_pos (fetch_0 t₀)]; rfl
  subst ht
  unfold Dat.owesAt Pipeline.owesWithin
  icases Ho with ⟨%W, %hW, HO⟩
  rw [show (dats π m ρ 0 c).owed t₀.castSucc = dues (due π c) from rfl]
  iapply (wp_load_rect 𝒱₀ (c : Thread nD τ) none Set.univ (m := tabM) (r := rW c) (Finset.subset_univ _)) $$ Hg; iintro Hg
  simp only [wp_assume_of _ _ _ _ (d := k0_chk1.dec _ _) (chk_of π hw)]
  iapply (branch π m K c (word c (tab m c)) hw _ _ (chk_of π hw)) $$ [Ht Hf Hc Hb HO]
  · isplitr; · iexact HR
    isplitr; · iexact Hlev
    isplitl [HO]; · unfold owing; iexists W; iexact HO
    isplitl [Ht]; · iexact Ht
    isplitl [Hf]; · iexact Hf
    isplitl [Hc]; · iexact Hc
    iexact Hb
  unfold owing bodyPost Φ₁ Dat.owesAt Pipeline.owesWithin
  rw [show (dats π m ρ 0 c).owed t₀.succ = 0 from rfl]
  iintro ⟨⟨%W', HO⟩, Hz, Ha⟩
  iapply Hk
  isplitl [Hz Ha]
  · isplitl [Hz]; · iexact Hz
    iexact Ha
  isplitl [HO]
  · iexists W'
    isplitr; · ipureintro; exact fun _ _ => Or.inl trivial
    iexact HO
  iexists _; isplitr; · (ipureintro; rfl)
  iexact Hg

set_option maxRecDepth 4000 in
/-- The pipeline's obligation on device `c`. -/
theorem body_obligation (hf : Follows π m) (c : Dev nD) : BodyObligation (dats (F := F) π m ρ 0 c) (defs₀ (F := F)) 𝒱₀ () Set.univ := fun t => by
  rw [fin_N t]
  rw [bigSep_W, bigSep_W]
  simp only [owns_whole_eq]
  show bodyPre π m ρ c ⊢ wp frame (wpE (defs₀ (F := F)) 𝒱₀ c none) Set.univ
    (cc0_body xM (Memref.isWhole_whole _) tabM (Memref.isWhole_whole _) oM (Memref.isWhole_whole _) t1M (Memref.isWhole_whole _) t2M (Memref.isWhole_whole _)
      cc0_scratch2 cc0_scratch3 cc0_scratch4 cc0_scratch5) (fun _ => bodyPost π m ρ c)
  iintro H
  iapply (sound_body π m ρ hf c fun _ => bodyPost π m ρ c)
  isplitl
  · iexact H
  · iintro H; iexact H

end Cert.KernelIdeal.Hops

end
-- ==== Proof.KernelIdeal.Deal.lean ====
/-
# What the launch deals out

The launch gives every semaphore its round, allocates one invariant for each of the sixty cells, and deals the rights to
raise them: a right to raise a neighbour's semaphore goes to the device that will raise it.
-/
module

public import proofs.«01_k».proof.Proof.KernelIdeal.Body
public import proofs.«01_k».proof.Proof.Gen.KernelIdeal.Launch

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ)

/-! ## The cells and the rights to raise them -/

/-- The kernel's own DMA semaphores: numbers 1 to 14. -/
def osem : Fin 14 → SemLoc sig := fun k => .dma k.succ

theorem ownSemFacts : Pipeline.OwnSemFacts cfg0.spec osem := by decide

/-- Every cell of every device. -/
def allCells : Finset (GSem nD τ sig) := Finset.univ.map ⟨kcell, kcell_injective⟩

/-- A device's sixteen rights: one for each of its semaphores, and a second one for its barrier. -/
def key (j : Fin 16) : Fin 15 := if h : j.val < 15 then ⟨j.val, h⟩ else 0
def tokOf (cj : Dev nD × Fin 16) : GSem nD τ sig × ℕ × Bool := (kcell (cj.1, key cj.2), 0, decide (cj.2 = 15))

theorem key_injective : ∀ j j' : Fin 16, key j = key j' → decide (j = 15) = decide (j' = 15) → j = j' := by decide

theorem tokOf_injective : Function.Injective tokOf := by
  rintro ⟨c, j⟩ ⟨c', j'⟩ h
  have h1 := kcell_injective (congrArg Prod.fst h)
  have h2 : decide (j = 15) = decide (j' = 15) := congrArg (fun x : GSem nD τ sig × ℕ × Bool => x.2.2) h
  have h3 : c = c' := congrArg (fun x : Dev nD × Fin 15 => x.1) h1
  have h4 : j = j' := key_injective j j' (congrArg (fun x : Dev nD × Fin 15 => x.2) h1) h2
  rw [h3, h4]

def allToks : Finset (GSem nD τ sig × ℕ × Bool) := Finset.univ.map ⟨tokOf, tokOf_injective⟩

/-- The ghost state the launch starts from. -/
def u₀ : UU := (initOf (Pipeline.cells cfgs cellOf_inj) (Pipeline.launchToks cfgs cellOf_inj), initOf allCells allToks)

omit [FloatOps F] in
theorem bigSep_cells (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem each_eq (Φ : GSem nD τ sig → sProp 𝕄) (c : Dev nD) : bigSep Finset.univ (fun k : Fin 15 => Φ (kcell (c, k))) = each Φ c := by
  rw [bigSep_cells]; rfl

/-- The rights to raise device `c`'s own semaphores. -/
def toks (c : Dev nD) : sProp 𝕄 := iprop(dutyTok ER (barCell c) 0 true ∗ each (fun g => dutyTok ER g 0 false) c)

omit [FloatOps F] in
theorem toks_eq (c : Dev nD) :
    bigSep Finset.univ (fun j : Fin 16 => (dutyTok ER (tokOf (c, j)).1 (tokOf (c, j)).2.1 (tokOf (c, j)).2.2 : sProp 𝕄)) = toks c := by
  rw [bigSep_univ_eq_bigSepL [15, 0, 1, 2, 3, 4, 5, 6, 7, 8, 9, 10, 11, 12, 13, 14] (by decide) (by decide)]; rfl

/-- What the launch element deals device `c`. -/
def G (c : Dev nD) : sProp 𝕄 :=
  iprop((bigSep Finset.univ fun k : Fin 15 => roundState ER (hopRd π m) (kcell (c, k)) 0)
    ∗ (bigSep Finset.univ fun k : Fin 15 => iprop(fresh (kcell (c, k)) ∗ reached ER (kcell (c, k)) 0)) ∗ toks c)

/-- What a device starts from, once the cells' invariants are allocated. -/
def G' (c : Dev nD) : sProp 𝕄 := iprop(∃ K, records π m K ∗ tokens π c ∗ each fresh c)

omit [FloatOps F] in
/-- The launch element funds every device's share. -/
theorem fund : BI.own (ER (initOf allCells allToks)) ⊢ (|==> bigSep Finset.univ (G π m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (hopRd π m) allCells allToks) $$ HX with ⟨Hst, Hr, Hat, Htok⟩
  imodintro
  ihave Hst := (Entails.of_eq (hX fun g => roundState ER (hopRd π m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The counters -/

omit [FloatOps F] in
theorem ownSems0_eq (c : Dev nD) : (Pipeline.ownSems0 (Ix := Unit) (Name := ℕ) (U := UU) (Lvl := ℕ) (Val := Elt F) (τ := τ) osem c : sProp 𝕄)
    = iprop(spent (dCell c 1) ∗ spent (dCell c 2) ∗ spent (dCell c 3) ∗ spent (dCell c 4) ∗ spent (dCell c 5) ∗ spent (dCell c 6) ∗ spent (dCell c 7)
      ∗ spent (dCell c 8) ∗ spent (dCell c 9) ∗ spent (dCell c 10) ∗ spent (dCell c 11) ∗ spent (dCell c 12) ∗ spent (dCell c 13) ∗ spent (dCell c 14)) := by
  rw [Pipeline.ownSems0_eq_of_list c osem [0, 1, 2, 3, 4, 5, 6, 7, 8, 9, 10, 11, 12, 13] (by decide) (by decide)]; rfl
omit [FloatOps F] in
theorem unscopedSems0_eq (c : Dev nD) : (unscopedSems0 c : sProp 𝕄) = spent (barCell c) := by
  unfold unscopedSems0; rw [bigSep_eq_bigSepL_of_eq [SemLoc.reg barS] (by decide) (by decide)]; rfl
omit [FloatOps F] in
/-- The barrier's counter and the DMA semaphores' are all the counters of a device. -/
theorem sems_eq (c : Dev nD) :
    iprop(unscopedSems0 c ∗ Pipeline.ownSems0 (Ix := Unit) (Name := ℕ) (U := UU) (Lvl := ℕ) (Val := Elt F) (τ := τ) osem c) = (each spent c : sProp 𝕄) := by
  rw [ownSems0_eq, unscopedSems0_eq]; rfl

omit [FloatOps F] in
/-- Device `c`'s cells go under their invariants. -/
theorem core_alloc (c : Dev nD) :
    iprop(Pipeline.ownSems0 (Ix := Unit) (Name := ℕ) (U := UU) (Lvl := ℕ) (Val := Elt F) (τ := τ) osem c ∗ unscopedSems0 c ∗ G π m c)
      ⊢ |={Set.univ}=> iprop((bigSep Finset.univ fun k => iprop(∃ κ : ℕ, cellInv ER (hopRd π m) κ (kcell (c, k))))
          ∗ (bigSep Finset.univ fun k => iprop(fresh (kcell (c, k)) ∗ reached ER (kcell (c, k)) 0)) ∗ toks c) := by
  unfold G
  iintro ⟨Hos, Hus, Hst, Hat, Htok⟩
  ihave Hv := (Entails.of_eq ((sems_eq (F := F) c).trans (each_eq spent c).symm)) $$ [Hos Hus]
  · isplitl [Hus]; · iexact Hus
    iexact Hos
  imod (show iprop((bigSep Finset.univ fun k : Fin 15 => semVal (kcell (c, k)) 0) ∗ bigSep Finset.univ fun k : Fin 15 => roundState ER (hopRd π m) (kcell (c, k)) 0)
      ⊢ (|={Set.univ}=> bigSep Finset.univ fun k => iprop(∃ κ : ℕ, cellInv ER (hopRd π m) κ (kcell (c, k))) : sProp 𝕄) from by
        rw [← bigSep_sep']
        exact (bigSep_mono fun k _ => (Rounds.body_intro ER (hopRd π m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## Dealing the rights around -/

omit [FloatOps F] in
/-- A family over the devices is the same family read along the permutation; -/
theorem along (Φ : Dev nD → sProp 𝕄) : bigSep Finset.univ Φ ⊢ bigSep Finset.univ fun c => Φ (π.dst c) :=
  Entails.of_eq (bigSep_univ_equiv π.equiv Φ)
omit [FloatOps F] in
/-- and read against it. -/
theorem against (Φ : Dev nD → sProp 𝕄) : bigSep Finset.univ Φ ⊢ bigSep Finset.univ fun c => Φ (π.src c) :=
  Entails.of_eq (bigSep_univ_equiv π.equiv.symm Φ)

omit [FloatOps F] in
/-- Every right goes to the device that will use it. -/
theorem toks_around : (bigSep Finset.univ fun c : Dev nD => (toks c : sProp 𝕄)) ⊢ bigSep Finset.univ fun c : Dev nD => tokens π c := by
  unfold toks tokens each
  simp only [bigSep_sep']
  iintro ⟨Bt, Bf, T1, T2, T3, T4, T5, T6, T7, T8, T9, T10, T11, T12, T13, T14⟩
  isplitl [Bf]; · iapply (along π fun c => dutyTok ER (barCell c) 0 false); iexact Bf
  isplitl [Bt]; · iapply (against π fun c => dutyTok ER (barCell c) 0 true); iexact Bt
  isplitl [T1]; · iexact T1
  isplitl [T2]; · iapply (along π fun c => tok c 2); iexact T2
  isplitl [T3]; · iexact T3
  isplitl [T4]; · iexact T4
  isplitl [T5]; · iexact T5
  isplitl [T6]; · iexact T6
  isplitl [T7]; · iexact T7
  isplitl [T8]; · iexact T8
  isplitl [T9]; · iapply (against π fun c => tok c 9); iexact T9
  isplitl [T10]; · iapply (against π fun c => tok c 10); iexact T10
  isplitl [T11]; · iapply (against π fun c => tok c 11); iexact T11
  isplitl [T12]; · iapply (against π fun c => tok c 12); iexact T12
  isplitl [T13]; · iapply (against π fun c => tok c 13); iexact T13
  iapply (against π fun c => tok c 14); iexact T14

omit [FloatOps F] in
/-- What everyone knows may be used at every member of a family. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The invariants become common knowledge; the rest goes to the devices. -/
theorem regroup :
    (bigSep Finset.univ fun c : Dev nD => iprop((bigSep Finset.univ fun k => iprop(∃ κ : ℕ, cellInv ER (hopRd π m) κ (kcell (c, k))))
          ∗ (bigSep Finset.univ fun k => iprop(fresh (kcell (c, k)) ∗ reached ER (kcell (c, k)) 0)) ∗ toks c) : sProp 𝕄)
      ⊢ bigSep Finset.univ (G' π m) := by
  rw [bigSep_sep', bigSep_sep', ← bigSep_univ_prod (fun ck : Dev nD × Fin 15 => iprop(∃ κ : ℕ, cellInv ER (hopRd π m) κ (kcell ck))),
    bigSep_congr (s := Finset.univ) (fun (c : Dev nD) _ => bigSep_sep' Finset.univ (fun k : Fin 15 => (fresh (kcell (c, k)) : sProp 𝕄)) (fun k => reached ER (kcell (c, k)) 0)),
    bigSep_sep', ← bigSep_univ_prod (fun ck : Dev nD × Fin 15 => (reached ER (kcell ck) 0 : sProp 𝕄)),
    bigSep_congr (s := Finset.univ) (fun (c : Dev nD) _ => each_eq (F := F) fresh c)]
  iintro ⟨HI, ⟨Hat, #HR⟩, Htok⟩
  ihave HK := (BI.bigSep_exists_pi Finset.univ (fun (ck : Dev nD × Fin 15) (κ : ℕ) => (cellInv ER (hopRd π m) κ (kcell ck) : sProp 𝕄))) $$ HI
  icases HK with ⟨%K, #HI⟩
  ihave Htk := (toks_around (F := F) π) $$ Htok
  iapply (bigSep_knowing (R := records π m K) (Φ := fun c => iprop(tokens π c ∗ each fresh c)) fun c _ => show _ ⊢ G' π m c from by
    unfold G'; iintro ⟨#H, H'⟩; iexists K; isplitr; · iexact H
    iexact H')
  isplitr
  · unfold records; isplitl; · iexact HI
    iexact HR
  · rw [bigSep_sep']
    isplitl [Htk]; · iexact Htk
    iexact Hat

omit [FloatOps F] in
/-- From all devices' counters and shares to what every device starts from. -/
theorem glob : (bigSep Finset.univ fun c => iprop(Pipeline.ownSems0 (Ix := Unit) (Name := ℕ) (U := UU) (Lvl := ℕ) (Val := Elt F) (τ := τ) osem c ∗ unscopedSems0 c ∗ G π m c) : sProp 𝕄)
    ⊢ |={Set.univ}=> bigSep Finset.univ (G' π m) :=
  ((bigSep_mono fun c _ => core_alloc π m c).trans (bigSep_fupd _ _)).trans (BI.fupd_mono (regroup π m))

end Cert.KernelIdeal.Hops

end
-- ==== Proof.KernelIdeal.Credit.lean ====
/-
# What a device is promised at launch

Summed over the devices, what they owe a semaphore is what its own device waits for.
-/
module

public import proofs.«01_k».proof.Proof.KernelIdeal.Deal

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan)

theorem tally_at (n c : Dev nD) (j k : Fin 15) (N : ℕ) :
    (tallyAt (kcell (n, j)) () N : CellTallies nD τ sig Unit) (kcell (c, k)) () = if n = c ∧ k = j then N else 0 := by
  rw [tallyAt_apply]
  refine if_congr ⟨fun h => ?_, fun h => ?_⟩ rfl rfl
  · have := kcell_injective h.1; exact ⟨(congrArg Prod.fst this).symm, congrArg Prod.snd this⟩
  · exact ⟨by rw [h.1, h.2], rfl⟩

/-- What a device pays to semaphore `k` of the device its block goes to; -/
def fwd (d : Dev nD) (k : Fin 15) : ℕ := if k = 0 then 1 else if k = 2 then (if π.half d then NW else ND) else 0
/-- and of the device its result comes from. -/
def back (d : Dev nD) (k : Fin 15) : ℕ := if π.half d then 0 else if k = 0 then 1 else if 9 ≤ k.val then NS else 0

theorem fwd_src (c : Dev nD) (k : Fin 15) : fwd π (π.src c) k = fwd π c k := by
  unfold fwd; simp only [π.half_src c]
theorem back_dst (c : Dev nD) (k : Fin 15) : back π (π.dst c) k = back π c k := by
  unfold back; simp only [π.half_dst c]

theorem hop_due (d : Dev nD) (q : Fin 15) (hq : 3 ≤ q.val) : hopDue π d q = (kcell (π.src d, q), NS) := by
  unfold hopDue
  rw [kcell_dma (π.src d) (q := q) (fun h => by rw [h] at hq; exact absurd hq (by decide)), ← amt_hop (π.half (π.src d)) hq]
theorem due_half (d : Dev nD) (h : π.half d) : due π d = [(kcell (π.dst d, 0), 1), (kcell (π.dst d, 2), NW)] := by
  unfold due dueHalf farDue
  rw [if_pos h, kcell_bar, kcell_dma (π.dst d) (q := 2) (by decide), ← amt_whole ((π.half_dst d).mpr h) (q := 2) (by decide)]
theorem due_hops (d : Dev nD) (h : ¬ π.half d) : due π d = [(kcell (π.dst d, 0), 1), (kcell (π.src d, 0), 1), (kcell (π.dst d, 2), ND),
    (kcell (π.src d, 9), NS), (kcell (π.src d, 10), NS), (kcell (π.src d, 11), NS), (kcell (π.src d, 12), NS), (kcell (π.src d, 13), NS), (kcell (π.src d, 14), NS)] := by
  unfold due due9 due7 due4 farDue
  rw [if_neg h, kcell_bar, kcell_bar, kcell_dma (π.dst d) (q := 2) (by decide), ← amt_far (fun h' => h ((π.half_dst d).mp h')) (q := 2) (by decide),
    hop_due π d 9 (by decide), hop_due π d 10 (by decide), hop_due π d 11 (by decide), hop_due π d 12 (by decide),
    hop_due π d 13 (by decide), hop_due π d 14 (by decide)]

theorem paid_half {P : Prop} [Decidable P] (k : Fin 15) (W : ℕ) :
    0 + (if P ∧ k = 2 then W else 0) + (if P ∧ k = 0 then 1 else 0) = (if P then if k = 0 then 1 else if k = 2 then W else 0 else 0) + 0 := by
  by_cases hP : P <;> fin_cases k <;> simp [hP]
theorem paid_hops {P Q : Prop} [Decidable P] [Decidable Q] (k : Fin 15) (D S : ℕ) :
    0 + (if Q ∧ k = 14 then S else 0) + (if Q ∧ k = 13 then S else 0) + (if Q ∧ k = 12 then S else 0) + (if Q ∧ k = 11 then S else 0)
      + (if Q ∧ k = 10 then S else 0) + (if Q ∧ k = 9 then S else 0) + (if P ∧ k = 2 then D else 0) + (if Q ∧ k = 0 then 1 else 0) + (if P ∧ k = 0 then 1 else 0)
      = (if P then if k = 0 then 1 else if k = 2 then D else 0 else 0) + (if Q then if k = 0 then 1 else if 9 ≤ k.val then S else 0 else 0) := by
  by_cases hP : P <;> by_cases hQ : Q <;> fin_cases k <;> simp [hP, hQ]

/-- What device `d` owes semaphore `k` of device `c`. -/
theorem owed_at (d c : Dev nD) (k : Fin 15) :
    dues (due π d) (kcell (c, k)) () = (if π.dst d = c then fwd π d k else 0) + (if π.src d = c then back π d k else 0) := by
  unfold fwd back
  by_cases h : π.half d
  · rw [due_half π d h]
    simp only [dues, Pi.add_apply, Finsupp.add_apply, tally_at, if_pos h, ite_self]
    exact paid_half k NW
  · rw [due_hops π d h]
    simp only [dues, Pi.add_apply, Finsupp.add_apply, tally_at, if_neg h]
    exact paid_hops k ND NS

/-- All that semaphore `k` of device `c` is owed. -/
theorem promised_at (c : Dev nD) (k : Fin 15) :
    tallyOn (kcell (c, k)) (launchCredit (Pipeline.owing fun d => dues (due π d)) 0 (kcell (c, k)))
      = (tallyAt (kcell (c, k)) () (fwd π c k + back π c k) : CellTallies nD τ sig Unit) := by
  unfold tallyAt; refine congrArg _ (Finsupp.ext fun u => ?_); cases u
  rw [Pipeline.launchCredit_owing, Finsupp.single_eq_same, Finset.sum_congr rfl fun d _ => owed_at π d c k, Finset.sum_add_distrib,
    Finset.sum_congr rfl fun d _ => if_congr (π.dst_eq_iff (a := d) (b := c)) (rfl : fwd π d k = _) rfl,
    Finset.sum_congr rfl fun d _ => if_congr (π.src_eq_iff (a := d) (b := c)) (rfl : back π d k = _) rfl,
    Finset.sum_ite_eq' Finset.univ (π.src c) fun d => fwd π d k, Finset.sum_ite_eq' Finset.univ (π.dst c) fun d => back π d k,
    if_pos (Finset.mem_univ _), if_pos (Finset.mem_univ _), fwd_src, back_dst]

omit [FloatOps F] in
/-- The launch promises a device its semaphores' units. -/
theorem promised (c : Dev nD) :
    (Pipeline.launchCred (fun d => dues (due π d)) c : sProp 𝕄)
      ⊢ bigSep Finset.univ fun k : Fin 15 => cred (tallyAt (kcell (c, k)) () (fwd π c k + back π c k)) := by
  unfold Pipeline.launchCred
  refine (bigSep_subset (Finset.subset_univ (Finset.univ.map ⟨csem, csem_injective⟩))).trans ?_
  rw [bigSep_map]
  exact bigSep_mono fun k _ => Entails.of_eq (congrArg cred (promised_at π c k))

omit [FloatOps F] in
/-- They are the units its branch waits for. -/
theorem creds_intro (c : Dev nD) : (Pipeline.launchCred (fun d => dues (due π d)) c : sProp 𝕄) ⊢ creds π c := by
  refine (promised π c).trans ?_
  rw [bigSep_cells]
  unfold creds
  by_cases h : π.half c
  · have e0 : fwd π c 0 + back π c 0 = 1 := by unfold fwd back; rw [if_pos rfl, if_pos h]
    have e2 : fwd π c 2 + back π c 2 = amt (π.half c) 2 := by
      unfold fwd back; rw [if_neg (by decide), if_pos rfl, if_pos h, if_pos h, ← amt_whole h (q := 2) (by decide)]; rfl
    rw [if_pos h, e0, e2]
    unfold halfCreds
    iintro ⟨H0, -, H2, -⟩
    isplitl [H0]; · iexact H0
    iexact H2
  · have e0 : fwd π c 0 + back π c 0 = 2 := by unfold fwd back; rw [if_pos rfl, if_neg h, if_pos rfl]
    have e2 : fwd π c 2 + back π c 2 = amt (π.half c) 2 := by
      unfold fwd back
      rw [if_neg (by decide), if_pos rfl, if_neg h, if_neg h, if_neg (by decide), if_neg (by decide), ← amt_far h (q := 2) (by decide)]; rfl
    have e (k : Fin 15) (hk : 9 ≤ k.val) : fwd π c k + back π c k = amt (π.half c) k := by
      have h0 : k ≠ 0 := fun h => by rw [h] at hk; exact absurd hk (by decide)
      have h2 : k ≠ 2 := fun h => by rw [h] at hk; exact absurd hk (by decide)
      unfold fwd back
      rw [if_neg h0, if_neg h2, if_neg h, if_neg h0, if_pos hk, Nat.zero_add, amt_hop (π.half c) (q := k) (Nat.le_trans (by decide) hk)]
    rw [if_neg h, e0, e2, e 9 (by decide), e 10 (by decide), e 11 (by decide), e 12 (by decide), e 13 (by decide), e 14 (by decide)]
    unfold hopCreds
    iintro ⟨H0, -, H2, -, -, -, -, -, -, H9, H10, H11, H12, H13, H14⟩
    isplitl [H0]; · iexact H0
    isplitl [H2]; · iexact H2
    isplitl [H9]; · iexact H9
    isplitl [H10]; · iexact H10
    isplitl [H11]; · iexact H11
    isplitl [H12]; · iexact H12
    isplitl [H13]; · iexact H13
    iexact H14

end Cert.KernelIdeal.Hops

end
-- ==== Proof.KernelIdeal.Run.lean ====
/-
# The whole run

Every device starts the pipeline with its block, its result buffer and what the launch dealt it, and ends with its
block unchanged and the result holding the block of the device that sends to it.
-/
module

public import proofs.«01_k».proof.Proof.KernelIdeal.Credit
public import proofs.«01_k».proof.Proof.Gen.KernelIdeal.Frame
public import Idealize.ShloMosaic.Lib.Pipeline.Quiescent

@[expose] public section

noncomputable section

namespace Cert.KernelIdeal.Hops

open Cert.KernelIdeal Cert.KernelIdeal.Gen Cert.Route

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Plan) (m : (ℓ : Loc nD τ sig) → Buf (Elt F) ℓ) (ρ : Dev nD → PrngReg)

theorem share_eq (c : Dev nD) (w : Fin cfg0.W) : (dats π m ρ 0 c).share w = fullShare := by unfold Dat.share; split <;> rfl

omit [FloatOps F] in
/-- A whole buffer held at some contents is the buffer held. -/
theorem anyOf_whole (c : Dev nD) (b : Ref sig .tc) :
    (anyOf c (Memref.whole b) : sProp 𝕄) = iprop(∃ f : Buf (Elt F) ((c : Thread nD τ).loc b), ((c : Thread nD τ).loc b) ↦{fullShare} f) :=
  Memref.IsWhole.exists_owns_eq (Memref.isWhole_whole b) fullShare
omit [FloatOps F] in
/-- A whole buffer held at known contents. -/
theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} (X : Buf (Elt F) ((c : Thread nD τ).loc b)) : sProp 𝕄) := owns_whole _ _ _ _

/-- What a device starts from, outside the pipeline's own buffers. -/
def X₀ (c : Dev nD) : sProp 𝕄 := iprop(start π m c ∗ ownsTc c xM fullShare (vW m c) ∗ anyOf c oM)
/-- What it ends with. -/
def Y₁ (c : Dev nD) : sProp 𝕄 := iprop(unscopedSems0 c
  ∗ (((c : Thread nD τ).loc main_arg0) ↦{fullShare} (vW m c : Buf (Elt F) ((c : Thread nD τ).loc main_arg0)))
  ∗ (((c : Thread nD τ).loc main_v1) ↦{fullShare} (vW m (π.src c) : Buf (Elt F) ((c : Thread nD τ).loc main_v1))))

omit [FloatOps F] in
theorem start_intro (c : Dev nD) :
    iprop(Pipeline.unscopedRestP Pipeline.Prefetch.none cfg0.spec c (fun b => m ((c : Thread nD τ).loc b)) ∗ levAts L lv
        ∗ Pipeline.launchCred (fun d => dues (due π d)) c ∗ prngReg c (ρ c) ∗ G' π m c)
      ⊢ |={Set.univ}=> iprop(X₀ π m c ∗ emp) := by
  rw [Pipeline.unscopedRestP_none, unscopedRest0_eq]
  iintro ⟨⟨Hx, Ho⟩, Hlev, Hcr, -, HG⟩
  ihave Hc := (creds_intro (F := F) π c) $$ Hcr
  imodintro
  unfold X₀ start G'
  isplitl
  · isplitl [HG Hc Hlev]
    · isplitl [HG]; · iexact HG
      isplitl [Hc]; · iexact Hc
      iexact Hlev
    isplitl [Hx]
    · iapply (Entails.of_eq (owns_at c main_arg0 (vW m c)).symm); iexact Hx
    · iapply (Entails.of_eq (anyOf_whole c main_v1).symm); iexists _; iexact Ho
  · iempintro

theorem phi0_intro (c : Dev nD) :
    iprop(X₀ π m c ∗ Pipeline.prefHeld Pipeline.Prefetch.none c (fun _ => fullShare.right) (fun k => k.elim0) ∗ Pipeline.scopedRest cfg0.spec c)
      ⊢ (dats π m ρ 0 c).Φ 0 := by
  rw [show (dats π m ρ 0 c).Φ 0 = Φ₀ π m c from rfl, scopedRest0_eq]
  unfold X₀ Φ₀ before
  iintro ⟨⟨Hs, Hx, Ho⟩, -, H1, H2⟩
  isplitl [Hs]; · iexact Hs
  isplitl [Hx]; · iexact Hx
  isplitl [Ho]; · iexact Ho
  isplitl [H1]
  · iapply (Entails.of_eq (anyOf_whole c cc0_scratch0).symm); iexact H1
  · iapply (Entails.of_eq (anyOf_whole c cc0_scratch1).symm); iexact H2

theorem phi1_exit (c : Dev nD) :
    (dats π m ρ 0 c).Φ (Fin.last cfg0.N) ⊢ iprop(Y₁ π m c ∗ Pipeline.ownSems0 osem c ∗ Pipeline.scopedRest cfg0.spec c) := by
  rw [show (dats π m ρ 0 c).Φ (Fin.last cfg0.N) = Φ₁ π m c from rfl, scopedRest0_eq]
  unfold Φ₁ after Y₁
  iintro ⟨Hz, Hx, Ho, H1, H2⟩
  ihave Hz := (Entails.of_eq (sems_eq (F := F) c).symm) $$ Hz
  icases Hz with ⟨Hu, Hos⟩
  isplitl [Hu Hx Ho]
  · isplitl [Hu]; · iexact Hu
    isplitl [Hx]
    · iapply (Entails.of_eq (owns_at c main_arg0 (vW m c))); iexact Hx
    · iapply (Entails.of_eq (owns_at c main_v1 (vW m (π.src c)))); iexact Ho
  isplitl [Hos]; · iexact Hos
  isplitl [H1]
  · iapply (Entails.of_eq (anyOf_whole c cc0_scratch0)); iexact H1
  · iapply (Entails.of_eq (anyOf_whole c cc0_scratch1)); iexact H2

/-- The pipeline's own waits come before everything owed. -/
theorem waits (c : Dev nD) : (levAts L lv : sProp 𝕄) ⊢ Pipeline.cellsWaits cfgs (dats π m ρ) () 0 c :=
  Pipeline.cellsWaits_intro cfgs (dats π m ρ) () 0 c fun w s t => by
    rcases t with ⟨_ | _, ht⟩
    · exact mayWait c _ (due π c) (aboveDue π (by fin_cases w <;> fin_cases s <;> rfl))
    · exact mayWait c _ [] (above_nil _ _)

/-- The final state of device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = (vW m c : Buf (Elt F) ((c : Thread nD τ).loc main_arg0))
    ∧ s.mem ((c : Thread nD τ).loc main_v1) = (vW m (π.src c) : Buf (Elt F) ((c : Thread nD τ).loc main_v1))

/-- What the run ends in: every device's arguments unchanged, its result the block of the device that sends to it, and
    every counter at zero. -/
def QC (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = (vW m (π.src c) : Buf (Elt F) ((c : Thread nD τ).loc main_v1)))
    ∧ r.2.sem = fun _ => 0

set_option maxRecDepth 8000 in
/-- From a launch memory that names the permutation `π`, every run of the four devices ends so. -/
theorem run_main (hf : Follows π m) : θ_run defs (onTc (τ := τ) (main (F := F))) (s₀ m ρ) (QC π m) :=
  Pipeline.θ_run_region_owing_glob_pf (fun p => (cfgs p).toPCfg) (fun p => (cfgs p).toPCfg_adm) (dats π m ρ) () cellOf_inj (0 : Fin 1)
    winFacts0.to₀ ownSemFacts (Pipeline.PreFacts.none _) EP defs₀ 𝒱₀ m ρ main
    (hmain := fun _ => rfl)
    (hbody := body_obligation π m ρ hf) (hne := fun w => by fin_cases w; exact Nat.succ_pos _) (harr := arr_whole0) (hstage := stage_whole0) (hshare := share_eq π m ρ)
    (hdistinct := winFacts0.arr_inj)
    (O₀ := fun d => dues (due π d)) (howed₀ := fun _ => rfl) (howedN := fun _ => rfl)
    (L := L) (lv := lv) (hL := L_of_ne) (hwaits := waits π m ρ)
    (G := G π m) (G' := G' π m) (u₀ := u₀)
    (hu₀ := by
      unfold u₀
      iintro Hu
      ihave H := (ownU_pair _ _) $$ Hu
      icases H with ⟨HP, HX⟩
      imod (fund π m) $$ HX with HG
      imodintro
      isplitl [HP] <;> iassumption)
    (hglob := glob π m)
    (hA := fun _ _ => rfl) (hpf := fun _ k => k.elim0)
    (X := X₀ π m) (Y := Y₁ π m) (Z := fun _ => iprop(emp))
    (hX := start_intro π m ρ) (hin := phi0_intro π m ρ) (hout := phi1_exit π m ρ)
    (QY := QY π m)
    (hY := fun c s' => by
      unfold Y₁ QY
      iintro ⟨⟨Hu, Hx, Ho⟩, -, HSI⟩
      icombine HSI Hx gives %hx
      icombine HSI Ho gives %ho
      ihave %hs := (tcUnscoped_read c s') $$ [Hu HSI]
      · isplitl [Hu]; · iexact Hu
        iexact HSI
      imodintro
      isplitr
      · ipureintro; exact ⟨hs, Buf.eq_of_forall_mem_univ hx, Buf.eq_of_forall_mem_univ ho⟩
      iexact HSI)
    (hQ := fun _ h hs => ⟨fun c => ⟨(h c).2.2.2.1, ((h c).1 (0 : Fin 1)).trans ((dats (F := F) π m ρ 0 c).arrAt_in (0 : Fin 1) rfl _), (h c).2.2.2.2⟩,
      sem_eq_zero hs fun c => (h c).2.2.1⟩)

end Cert.KernelIdeal.Hops

end
-- ==== Proof.KernelIdeal.Named.lean ====
/-
# The run from a named permutation

Where every device's array is the table of a plan, every run ends with the arguments unchanged, the result holding the
blocks the plan routes, and every semaphore zero.
-/
module

public import proofs.«01_k».proof.Proof.KernelIdeal.Run
public import proofs.«01_k».proof.Proof.Tables

@[expose] public section

noncomputable section

namespace Cert.KernelIdeal.Hops

open Cert.KernelIdeal Cert.KernelIdeal.Gen Cert.Route

open Idealize.ShloMosaic Idealize.ShloMosaic.TcCoe Idealize.SL.Sem

variable {F : FTy → Type} [FloatOps F]

variable {π : Plan} (m : (ℓ : Loc nD τ sig) → Buf (Elt F) ℓ) (ρ : Dev nD → PrngReg)

/-- Every device's array of words is the permutation's table. -/
abbrev Named (π : Plan) : Prop := ∀ c : Dev nD, (m ((c.tc : Thread nD τ).loc main_arg1) : IVec S4 32) = π.table

omit [FloatOps F] in
/-- Then the entry each device reads is the device its block goes to. -/
theorem follows (h : Named m π) : Follows π m := fun c => by
  rw [h c]
  have e : (entry c 0 : Fin 4) = c := Fin.ext (Nat.zero_add _)
  show BitVec.ofNat 32 (π.dst (entry c 0)).val = _
  rw [e]

/-- The whole run from a named permutation. -/
theorem run_named (h : Named m π) : θ_run defs (onTc (τ := τ) (main (F := F))) ⟨m, fun _ => 0, ρ⟩ (QC π m) :=
  run_main π m ρ (follows m h)

/-- The run with its values dropped: the arguments end unchanged and every semaphore zero. -/
theorem run_quiet (h : Named m π) : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ hr => ⟨fun c => ⟨(hr.1 c).1, (hr.1 c).2.1⟩, hr.2⟩) (run_named m ρ h)

end Cert.KernelIdeal.Hops

end
-- ==== Proof.Reference.Value.lean ====
/-
# What the reference computes

The reference sorts the positions of the permutation by its entries, which for a permutation is its inverse, and takes
the blocks in that order: block `c` of the result is block `src c` of the argument.
-/
module

public import proofs.«01_k».proof.Proof.Gen.ReferenceIdeal.Run
public import proofs.«01_k».proof.Proof.Tables

@[expose] public section

noncomputable section

namespace Cert.ReferenceIdeal.Blocks

open Cert.ReferenceIdeal Cert.ReferenceIdeal.Gen Cert.Route
open Idealize.ShloMosaic Idealize.ShloMosaic.TcCoe Idealize.SL.Sem

/-- Index `k` of an array of four. -/
abbrev at1 (k : Fin 4) : S4.Idx
  | ⟨0, _⟩ => k
/-- Index `(k, 0)` of a column of four. -/
abbrev at2 (k : Fin 4) : S4x1.Idx
  | ⟨0, _⟩ => k
  | ⟨1, _⟩ => (0 : Fin 1)

/-- The positions of an array of four words, in the order of the words. -/
def order (x : IVec S4 32) : IVec S4 32 := (Host.sort2 S4 0 comparator_i32_i32_d0 x (iotaInDim S4 32 0)).2

/-- The order of the permutation's entries is its inverse. -/
def Sorts (π : Plan) : Prop := ∀ k : Fin 4, order π.table (at1 k) = BitVec.ofNat 32 (π.src k).val

theorem sorts_shift0 : Sorts shift0 := by unfold Sorts; decide
theorem sorts_shift1 : Sorts shift1 := by unfold Sorts; decide
theorem sorts_shift2 : Sorts shift2 := by unfold Sorts; decide
theorem sorts_shift3 : Sorts shift3 := by unfold Sorts; decide
theorem sorts_swap02 : Sorts swap02 := by unfold Sorts; decide
theorem sorts_swap13 : Sorts swap13 := by unfold Sorts; decide

/-- The row numbers the reference gathers at: the order, a negative number counted from the end. -/
def rows (x : IVec S4 32) : IVec S4x1 32 :=
  broadcastInDim S4x1 ![0] bcast_S4_S4x1_0
    (select (cmpi .slt (order x) (broadcastInDim S4 ![] bcast_S_S4 (constantI S_ 32 0#32)))
      (addi (order x) (broadcastInDim S4 ![] bcast_S_S4 (constantI S_ 32 4#32))) (order x))

/-- The word of a device is not negative, so it is kept as it is. -/
theorem keep_word : ∀ d : Fin 4, Scalar.select (IntOp.cmpi .slt (BitVec.ofNat 32 d.val) 0#32)
    (IntOp.addi (BitVec.ofNat 32 d.val) 4#32) (BitVec.ofNat 32 d.val) = BitVec.ofNat 32 d.val := by decide

/-- The row number at position `k` is the device whose block ends at `k`. -/
theorem rows_at {π : Plan} (hs : Sorts π) (i : S4x1.Idx) : rows π.table i = BitVec.ofNat 32 (π.src (i 0)).val := by
  have ho : order π.table (at1 (i 0)) = BitVec.ofNat 32 (π.src (i 0)).val := hs (i 0)
  have h : rows π.table i = Scalar.select (IntOp.cmpi .slt (order π.table (at1 (i 0))) 0#32)
      (IntOp.addi (order π.table (at1 (i 0))) 4#32) (order π.table (at1 (i 0))) := by
    have e : ∀ f : S4.Idx → BitVec 32, broadcastInDim S4x1 ![0] bcast_S4_S4x1_0 f i = f (at1 (i 0)) := by
      intro f
      refine congrArg f (funext fun a => ?_)
      fin_cases a
      rfl
    exact e _
  rw [h, ho]
  exact keep_word (π.src (i 0))

/-- The index `y` with its block number replaced by `b`. -/
def inBlock (b : Fin 4) (y : S4x4096x2048.Idx) : S4x4096x2048.Idx
  | ⟨0, _⟩ => b
  | ⟨1, _⟩ => y 1
  | ⟨2, _⟩ => y 2

/-- The gather reads, at `y`, the block the row number at `y`'s block number names. -/
theorem gather_at {α : Type} (x : S4x4096x2048.Idx → α) (idx : IVec S4x1 32) (y : S4x4096x2048.Idx) (b : Fin 4)
    (hb : idx (at2 (y 0)) = BitVec.ofNat 32 b.val) :
    Host.gather gather_S4x4096x2048_S4x1_S4x4096x2048_12_0_n_n_0_1_140962048 x idx y = x (inBlock b y) := by
  unfold Host.gather
  refine congrArg x (funext fun a => Fin.ext ?_)
  have hw : ∀ d : Fin 4, min (BitVec.ofNat 32 d.val).toInt.toNat (4 - 1) = d.val := by decide
  match a with
  | ⟨0, _⟩ =>
    show GatherDims.start _ y idx 0 + GatherDims.batchCoord _ y 0 + GatherDims.offCoord _ y 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S4x4096x2048_S4x1_S4x4096x2048_12_0_n_n_0_1_140962048.startIndexMap from List.mem_singleton.mpr rfl)]
    have hsi : gather_S4x4096x2048_S4x1_S4x4096x2048_12_0_n_n_0_1_140962048.siIdx y
        ⟨List.idxOf (0 : Fin 3) gather_S4x4096x2048_S4x1_S4x4096x2048_12_0_n_n_0_1_140962048.startIndexMap,
          List.idxOf_lt_length_iff.2 (List.mem_singleton.mpr rfl)⟩ = at2 (y 0) := by
      funext k; refine Fin.ext ?_
      match k with
      | ⟨0, _⟩ => rfl
      | ⟨1, _⟩ => rfl
    rw [hsi, hb]
    exact hw b
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (by decide)]
    rw [Nat.zero_add]
    rfl
  | ⟨2, _⟩ =>
    show GatherDims.start _ y idx 2 + GatherDims.batchCoord _ y 2 + GatherDims.offCoord _ y 2 = (y 2).val
    rw [GatherDims.batchCoord_eq_zero _ _ _ List.not_mem_nil]
    unfold GatherDims.start
    rw [dif_neg (by decide)]
    rw [Nat.zero_add]
    rfl

/-- The result: block `c` is block `src c` of the argument. -/
def routed (π : Plan) {α : Type} (x : S4x4096x2048.Idx → α) : S4x4096x2048.Idx → α := fun y => x (inBlock (π.src (y 0)) y)

variable {F : FTy → Type} [FloatOps F]

/-- The reference, given the permutation's table, ends with the blocks routed and its arguments unchanged. -/
theorem run_routed {π : Plan} (hs : Sorts π) (m : (ℓ : Loc nD τ sig) → Buf (Elt F) ℓ) (ρ : Dev nD → PrngReg)
    (ht : ∀ c : Dev nD, (m ((c.tc : Thread nD τ).loc main_arg1) : IVec S4 32) = π.table) :
    θ_run defs (onTc (τ := τ) (main (F := F))) ⟨m, fun _ => 0, ρ⟩ fun r => ∀ c : Dev nD,
      r.2.mem ((c.tc : Thread nD τ).loc main_v7) = routed π (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      show Host.gather _ _ (rows (m ((c.tc : Thread nD τ).loc main_arg1))) = _
      rw [ht c]
      funext y
      exact gather_at _ _ _ _ (rows_at hs _)), (h c).2⟩) (Value.run m ρ)

/-- The reference always ends with its arguments unchanged and, having no semaphores, every semaphore zero. -/
theorem run_quiet (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, funext fun s => by
    rcases s with ⟨t, s⟩
    cases s with
    | reg s => exact Fin.elim0 s
    | dma s => exact Fin.elim0 s⟩) (Value.run m ρ)

end Cert.ReferenceIdeal.Blocks

end
-- ==== Proof.Equation.lean ====
/-
# The kernel's result is the reference's

Device `c` ends with the block of the device that sends to it, which is block `c` of the blocks the reference routes.
-/
module

public import proofs.«01_k».proof.Proof.KernelIdeal.Named
public import proofs.«01_k».proof.Proof.Reference.Value

@[expose] public section

noncomputable section

namespace Cert.Equation

open Cert.Route Idealize.ShloMosaic Idealize.SL.Sem

/-- Block `c` of the routed blocks is the block of the device that sends to `c`. -/
theorem block_routed {α : Type} (π : Plan) (x : Cert.ReferenceIdeal.S4x4096x2048.Idx → α) (c : Fin 4) :
    Layout.block ⟨3, ![1, 4096, 2048]⟩ ⟨3, ![4, 4096, 2048]⟩ 0 4 c (Cert.ReferenceIdeal.Blocks.routed π x)
      = Layout.block ⟨3, ![1, 4096, 2048]⟩ ⟨3, ![4, 4096, 2048]⟩ 0 4 (π.src c) x := by
  have ht : Layout.Tiles ⟨3, ![1, 4096, 2048]⟩ ⟨3, ![4, 4096, 2048]⟩ 0 4 := by decide
  funext i
  have h0 : (i 0).val = 0 := Nat.lt_one_iff.mp (i 0).isLt
  have hd : ∀ d : Fin 4, ∀ b : Fin 3, b ≠ 0 → (ht.idx d i b).val = (i b).val := fun d b hb => by
    rw [ht.idx_val, if_neg (show ¬ (Fin.cast ht.rank.symm b).val = 0 from fun h => hb (Fin.ext h))]
    rfl
  have hc : ∀ d : Fin 4, (ht.idx d i 0 : Fin 4) = d := fun d => Fin.ext (by
    show d.val * 1 + (i 0).val = d.val
    rw [h0, Nat.mul_one, Nat.add_zero])
  refine congrArg x (funext fun a => ?_)
  match a with
  | ⟨0, _⟩ =>
    show π.src (ht.idx c i 0) = (ht.idx (π.src c) i 0 : Fin 4)
    rw [hc, hc]
  | ⟨1, _⟩ => exact Fin.ext ((hd c 1 (by decide)).trans (hd (π.src c) 1 (by decide)).symm)
  | ⟨2, _⟩ => exact Fin.ext ((hd c 2 (by decide)).trans (hd (π.src c) 2 (by decide)).symm)

/-- From a named permutation, and with each device holding its block of the reference's argument, both programs run, the
    reference ends holding the routed blocks, and device `c` of the kernel block `c` of them. -/
theorem same_result {π : Plan} (hs : Cert.ReferenceIdeal.Blocks.Sorts π)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hn : Cert.KernelIdeal.Hops.Named m π)
    (hm : ∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![4, 4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨Cert.ReferenceIdeal.Blocks.routed π (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨?_, (h.1 c).1, (h.1 c).2.1⟩) (Cert.KernelIdeal.Hops.run_named m g hn)
    exact ((h.1 c).2.2.trans (hm (π.src c)).1).trans (block_routed π _ c).symm
  · refine (θ_run _ _ _).mono (fun r h => h 0) (Cert.ReferenceIdeal.Blocks.run_routed hs m' g' fun c => ?_)
    obtain rfl : c = 0 := Subsingleton.elim _ _
    exact (hm 0).2.symm.trans (hn 0)

end Cert.Equation

end
-- ==== Proof.lean ====
/-
# The certificate

For each of the six permutations the kernel routes: both readings of the kernel run, leave their arguments unchanged and
every semaphore zero; and at exact arithmetic device `c`'s result is block `c` of the reference's. The reference runs from
any memory. Nothing was rewritten between the two readings of the kernel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_shift_by_0_Kernel
public import proofs.«01_k».proof.Proof.Gen.Pre_shift_by_1_Kernel
public import proofs.«01_k».proof.Proof.Gen.Pre_shift_by_2_Kernel
public import proofs.«01_k».proof.Proof.Gen.Pre_shift_by_3_Kernel
public import proofs.«01_k».proof.Proof.Gen.Pre_swap_0_2_Kernel
public import proofs.«01_k».proof.Proof.Gen.Pre_swap_1_3_Kernel
public import proofs.«01_k».proof.Proof.Gen.Pre_shift_by_0_ReferenceIdeal
public import proofs.«01_k».proof.Proof.Gen.Pre_shift_by_1_ReferenceIdeal
public import proofs.«01_k».proof.Proof.Gen.Pre_shift_by_2_ReferenceIdeal
public import proofs.«01_k».proof.Proof.Gen.Pre_shift_by_3_ReferenceIdeal
public import proofs.«01_k».proof.Proof.Gen.Pre_swap_0_2_ReferenceIdeal
public import proofs.«01_k».proof.Proof.Gen.Pre_swap_1_3_ReferenceIdeal
public import proofs.«01_k».proof.Proof.Kernel.Named
public import proofs.«01_k».proof.Proof.KernelIdeal.Named
public import proofs.«01_k».proof.Proof.Reference.Value
public import proofs.«01_k».proof.Proof.Equation
public import Idealize.ShloMosaic.Adequacy
public import Idealize.ShloMosaic.Init

@[expose] public section

noncomputable section

namespace Cert.Proof

open Idealize.ShloMosaic Idealize.SL.Sem Cert.Route

/-- Every claim: the kernel's frames, the same of its ideal reading, the reference's, and the six equations. -/
theorem claim : Cert.Claim :=
  ⟨Cert.Kernel.Gen.facts,
   Cert.KernelIdeal.Gen.facts,
   Cert.ReferenceIdeal.Gen.facts,
   Cert.Pre_shift_by_0_Kernel.Gen.facts,
   Cert.Pre_shift_by_1_Kernel.Gen.facts,
   Cert.Pre_shift_by_2_Kernel.Gen.facts,
   Cert.Pre_shift_by_3_Kernel.Gen.facts,
   Cert.Pre_swap_0_2_Kernel.Gen.facts,
   Cert.Pre_swap_1_3_Kernel.Gen.facts,
   Cert.Pre_shift_by_0_ReferenceIdeal.Gen.facts,
   Cert.Pre_shift_by_1_ReferenceIdeal.Gen.facts,
   Cert.Pre_shift_by_2_ReferenceIdeal.Gen.facts,
   Cert.Pre_shift_by_3_ReferenceIdeal.Gen.facts,
   Cert.Pre_swap_0_2_ReferenceIdeal.Gen.facts,
   Cert.Pre_swap_1_3_ReferenceIdeal.Gen.facts,
   fun m g h => Cert.Kernel.Hops.run_quiet m g fun c => table_shift0 (h c),
   fun m g h => Cert.Kernel.Hops.run_quiet m g fun c => table_shift1 (h c),
   fun m g h => Cert.Kernel.Hops.run_quiet m g fun c => table_shift2 (h c),
   fun m g h => Cert.Kernel.Hops.run_quiet m g fun c => table_shift3 (h c),
   fun m g h => Cert.Kernel.Hops.run_quiet m g fun c => table_swap02 (h c),
   fun m g h => Cert.Kernel.Hops.run_quiet m g fun c => table_swap13 (h c),
   fun m g h => Cert.KernelIdeal.Hops.run_quiet m g fun c => table_shift0 (h c),
   fun m g h => Cert.KernelIdeal.Hops.run_quiet m g fun c => table_shift1 (h c),
   fun m g h => Cert.KernelIdeal.Hops.run_quiet m g fun c => table_shift2 (h c),
   fun m g h => Cert.KernelIdeal.Hops.run_quiet m g fun c => table_shift3 (h c),
   fun m g h => Cert.KernelIdeal.Hops.run_quiet m g fun c => table_swap02 (h c),
   fun m g h => Cert.KernelIdeal.Hops.run_quiet m g fun c => table_swap13 (h c),
   fun m g _ => Cert.ReferenceIdeal.Blocks.run_quiet m g,
   fun m g _ => Cert.ReferenceIdeal.Blocks.run_quiet m g,
   fun m g _ => Cert.ReferenceIdeal.Blocks.run_quiet m g,
   fun m g _ => Cert.ReferenceIdeal.Blocks.run_quiet m g,
   fun m g _ => Cert.ReferenceIdeal.Blocks.run_quiet m g,
   fun m g _ => Cert.ReferenceIdeal.Blocks.run_quiet m g,
   fun m g _ => Cert.ReferenceIdeal.Blocks.run_quiet m g,
   trivial,
   fun m g m' g' h hm => Cert.Equation.same_result Cert.ReferenceIdeal.Blocks.sorts_shift0 m g m' g' (fun c => table_shift0 (h c)) hm,
   fun m g m' g' h hm => Cert.Equation.same_result Cert.ReferenceIdeal.Blocks.sorts_shift1 m g m' g' (fun c => table_shift1 (h c)) hm,
   fun m g m' g' h hm => Cert.Equation.same_result Cert.ReferenceIdeal.Blocks.sorts_shift2 m g m' g' (fun c => table_shift2 (h c)) hm,
   fun m g m' g' h hm => Cert.Equation.same_result Cert.ReferenceIdeal.Blocks.sorts_shift3 m g m' g' (fun c => table_shift3 (h c)) hm,
   fun m g m' g' h hm => Cert.Equation.same_result Cert.ReferenceIdeal.Blocks.sorts_swap02 m g m' g' (fun c => table_swap02 (h c)) hm,
   fun m g m' g' h hm => Cert.Equation.same_result Cert.ReferenceIdeal.Blocks.sorts_swap13 m g m' g' (fun c => table_swap13 (h c)) hm⟩

end Cert.Proof

end
